-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x6912 : Shape := ⟨3, ![4, 8192, 6912]⟩
abbrev S4x8192x1 : Shape := ⟨3, ![4, 8192, 1]⟩
abbrev S6912x5120 : Shape := ⟨2, ![6912, 5120]⟩
abbrev S5120 : Shape := ⟨1, ![5120]⟩
abbrev S32768x6912 : Shape := ⟨2, ![32768, 6912]⟩
abbrev S256x128 : Shape := ⟨2, ![256, 128]⟩
abbrev S1x5120 : Shape := ⟨2, ![1, 5120]⟩
abbrev S32768x2560 : Shape := ⟨2, ![32768, 2560]⟩
abbrev S32768x20 : Shape := ⟨2, ![32768, 20]⟩
abbrev S1024x6912 : Shape := ⟨2, ![1024, 6912]⟩
abbrev S8x128 : Shape := ⟨2, ![8, 128]⟩
abbrev S6912x512 : Shape := ⟨2, ![6912, 512]⟩
abbrev S1x512 : Shape := ⟨2, ![1, 512]⟩
abbrev S1024x256 : Shape := ⟨2, ![1024, 256]⟩
abbrev S1024x20 : Shape := ⟨2, ![1024, 20]⟩
abbrev S1024x128 : Shape := ⟨2, ![1024, 128]⟩
abbrev S1x128 : Shape := ⟨2, ![1, 128]⟩
abbrev S128x128 : Shape := ⟨2, ![128, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4x8192x6912, .fp8e4m3⟩
  | .hbm, ⟨1, _⟩ => ⟨S4x8192x1, .f32⟩
  | .hbm, ⟨2, _⟩ => ⟨S6912x5120, .fp8e4m3⟩
  | .hbm, ⟨3, _⟩ => ⟨S5120, .f32⟩
  | .hbm, ⟨4, _⟩ => ⟨S32768x6912, .fp8e4m3⟩
  | .hbm, ⟨5, _⟩ => ⟨S256x128, .f32⟩
  | .hbm, ⟨6, _⟩ => ⟨S1x5120, .f32⟩
  | .hbm, ⟨7, _⟩ => ⟨S32768x2560, .fp8e4m3⟩
  | .hbm, ⟨8, _⟩ => ⟨S32768x20, .f32⟩
  | .local _ .vmem, ⟨0, _⟩ => ⟨S1024x6912, .fp8e4m3⟩
  | .local _ .vmem, ⟨1, _⟩ => ⟨S1024x6912, .fp8e4m3⟩
  | .local _ .vmem, ⟨2, _⟩ => ⟨S8x128, .f32⟩
  | .local _ .vmem, ⟨3, _⟩ => ⟨S8x128, .f32⟩
  | .local _ .vmem, ⟨4, _⟩ => ⟨S6912x512, .fp8e4m3⟩
  | .local _ .vmem, ⟨5, _⟩ => ⟨S6912x512, .fp8e4m3⟩
  | .local _ .vmem, ⟨6, _⟩ => ⟨S1x512, .f32⟩
  | .local _ .vmem, ⟨7, _⟩ => ⟨S1x512, .f32⟩
  | .local _ .vmem, ⟨8, _⟩ => ⟨S1024x256, .fp8e4m3⟩
  | .local _ .vmem, ⟨9, _⟩ => ⟨S1024x256, .fp8e4m3⟩
  | .local _ .vmem, ⟨10, _⟩ => ⟨S1024x20, .f32⟩
  | .local _ .vmem, ⟨11, _⟩ => ⟨S1024x20, .f32⟩
  | .local _ .vmem, ⟨12, _⟩ => ⟨S1024x128, .f32⟩
  | _, _ => ⟨S4x8192x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x6912 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6912x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x8192x6912 : Shape := ⟨3, ![4, 8192, 6912]⟩
abbrev S4x8192x1 : Shape := ⟨3, ![4, 8192, 1]⟩
abbrev S6912x5120 : Shape := ⟨2, ![6912, 5120]⟩
abbrev S5120 : Shape := ⟨1, ![5120]⟩
abbrev S32768x6912 : Shape := ⟨2, ![32768, 6912]⟩
abbrev S32768x1 : Shape := ⟨2, ![32768, 1]⟩
abbrev S1x5120 : Shape := ⟨2, ![1, 5120]⟩
abbrev S32768x2560 : Shape := ⟨2, ![32768, 2560]⟩
abbrev S32768x20 : Shape := ⟨2, ![32768, 20]⟩
abbrev S32768x5120 : Shape := ⟨2, ![32768, 5120]⟩
abbrev S32768x20x2x128 : Shape := ⟨4, ![32768, 20, 2, 128]⟩
abbrev S32768x20x1x128 : Shape := ⟨4, ![32768, 20, 1, 128]⟩
abbrev S32768x20x128 : Shape := ⟨3, ![32768, 20, 128]⟩
abbrev S32768x20x1 : Shape := ⟨3, ![32768, 20, 1]⟩
abbrev S32768x20x252 : Shape := ⟨3, ![32768, 20, 252]⟩

abbrev nBuf : Space → Nat
  | .hbm => 9
  | .vmem => 6
  | .smem => 0
  | _ => 0

abbrev bufTy : (tb : Table) → Fin (tcTables nBuf tb) → BufTy
  | .hbm, ⟨0, _⟩ => ⟨S4x8192x6912, .fp8e4m3⟩
  | .hbm, ⟨1, _⟩ => ⟨S4x8192x1, .f32⟩
  | .hbm, ⟨2, _⟩ => ⟨S6912x5120, .fp8e4m3⟩
  | .hbm, ⟨3, _⟩ => ⟨S5120, .f32⟩
  | .hbm, ⟨4, _⟩ => ⟨S32768x6912, .fp8e4m3⟩
  | .hbm, ⟨5, _⟩ => ⟨S32768x1, .f32⟩
  | .hbm, ⟨6, _⟩ => ⟨S1x5120, .f32⟩
  | .hbm, ⟨7, _⟩ => ⟨S32768x2560, .fp8e4m3⟩
  | .hbm, ⟨8, _⟩ => ⟨S32768x20, .f32⟩
  | .local _ .vmem, ⟨0, _⟩ => ⟨S32768x6912, .fp8e4m3⟩
  | .local _ .vmem, ⟨1, _⟩ => ⟨S32768x1, .f32⟩
  | .local _ .vmem, ⟨2, _⟩ => ⟨S6912x5120, .fp8e4m3⟩
  | .local _ .vmem, ⟨3, _⟩ => ⟨S1x5120, .f32⟩
  | .local _ .vmem, ⟨4, _⟩ => ⟨S32768x2560, .fp8e4m3⟩
  | .local _ .vmem, ⟨5, _⟩ => ⟨S32768x20, .f32⟩
  | _, _ => ⟨S4x8192x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32768x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/-
  THE POWER-OF-TWO SCALE OF ONE GROUP, over the extended reals.

  The kernel finds the biased exponent of a nonnegative number `v` by a greedy search against powers of two, and
  makes the scale and its inverse out of that exponent's bits. The reference states the scale as the least power of
  two above `v`. Here both are written as functions of the one number `v`, and proved equal.
-/
module

public import Idealize.ShloMosaic.PureOps.Ideal
public import Idealize.ShloMosaic.PureOps.Ideal.Laws
public import Idealize.ShloMosaic.Lib.Tactic

@[expose] public section

set_option maxRecDepth 16384

noncomputable section

open Idealize.ShloMosaic

namespace Cert.Scale

/-! ## The kernel's operations on one element, at any values -/

section Generic

variable {F : FTy → Type} [FloatOps F]

/-- One step of the search: raise the field `f` by `s` when `v` is at least the float whose exponent field is `f + s`. -/
def bump (v : F .f32) (f s : BitVec 32) : BitVec 32 :=
  Scalar.select (FloatOps.cmpf .oge v (FloatOps.ofBits .f32 (IntOp.shli .vector (IntOp.addi f s) 23#32))) (IntOp.addi f s) f

/-- The eight steps of the search, from field zero. -/
def field (v : F .f32) : BitVec 32 :=
  bump v (bump v (bump v (bump v (bump v (bump v (bump v (bump v 0#32 125#32) 64#32) 32#32) 16#32) 8#32) 4#32) 2#32) 1#32

/-- The exponent bits the kernel works with: the field in place, all ones at infinity. -/
def expBits (v : F .f32) : BitVec 32 :=
  Scalar.select (FloatOps.cmpf .oeq v (FloatOps.ofBits .f32 0x7F800000#32)) 2139095040#32 (IntOp.shli .vector (field v) 23#32)

/-- Set when the group keeps scale one: its exponent bits are all zero or all one. -/
def plain (v : F .f32) : BitVec 1 :=
  IntOp.ori (IntOp.cmpi .eq (expBits v) 0#32) (IntOp.cmpi .eq (expBits v) 2139095040#32)

/-- The scale the kernel stores. -/
def kScale (v : F .f32) : F .f32 :=
  FloatOps.ofBits .f32 (Scalar.select (plain v) 1065353216#32 (IntOp.addi (expBits v) 8388608#32))

/-- The inverse scale the kernel multiplies by. -/
def kInv (v : F .f32) : F .f32 :=
  FloatOps.ofBits .f32 (Scalar.select (plain v) 1065353216#32 (IntOp.subi 2122317824#32 (expBits v)))

end Generic

/-! ## Powers of two as floats -/

/-- The float whose exponent field is `n` and whose fraction is zero, as an extended real. -/
def pw (n : ℕ) : EReal := Ideal.ofBits .f32 (BitVec.ofNat 32 (n * 2 ^ 23))

theorem pw_zero : pw 0 = 0 := by
  simp [pw, Ideal.ofBits, Ideal.ieee]

/-- A normal exponent field denotes its power of two. -/
theorem pw_eq (n : ℕ) (h1 : 1 ≤ n) (h2 : n ≤ 254) : pw n = (((2 : ℝ) ^ ((n : ℤ) - 127) : ℝ) : EReal) := by
  have hx : ((BitVec.ofNat 32 (n * 2 ^ 23)).extractLsb' 23 8).toNat = n := by
    rw [BitVec.extractLsb'_toNat, BitVec.toNat_ofNat, Nat.mod_eq_of_lt (show n * 2 ^ 23 < 2 ^ 32 by omega), Nat.shiftRight_eq_div_pow]; omega
  have hf : ((BitVec.ofNat 32 (n * 2 ^ 23)).extractLsb' 0 23).toNat = 0 := by
    rw [BitVec.extractLsb'_toNat, BitVec.toNat_ofNat, Nat.mod_eq_of_lt (show n * 2 ^ 23 < 2 ^ 32 by omega), Nat.shiftRight_eq_div_pow]; omega
  have hs : ((BitVec.ofNat 32 (n * 2 ^ 23)).extractLsb' 31 1 == 1#1) = false := by
    rw [beq_eq_false_iff_ne]; intro h
    have := congrArg BitVec.toNat h
    rw [BitVec.extractLsb'_toNat, BitVec.toNat_ofNat, Nat.mod_eq_of_lt (show n * 2 ^ 23 < 2 ^ 32 by omega),
      Nat.shiftRight_eq_div_pow, show (1#1 : BitVec 1).toNat = 1 from rfl] at this
    omega
  unfold pw Ideal.ofBits Ideal.ieee
  simp only [hx, hf, hs, show (8 + 23 : ℕ) = 31 from rfl]
  rw [if_neg (by omega), if_neg (by omega)]
  congr 1
  rw [show ((n : ℤ) - (2 ^ (8 - 1) - 1) - (23 : ℕ) : ℤ) = ((n : ℤ) - 127) - 23 by norm_num,
    zpow_sub₀ (by norm_num : (2 : ℝ) ≠ 0)]
  norm_num
  ring

theorem pw_pos (n : ℕ) (h1 : 1 ≤ n) (h2 : n ≤ 254) : 0 < pw n := by
  rw [pw_eq n h1 h2]; exact EReal.coe_pos.mpr (zpow_pos (by norm_num) _)

theorem pw_mono {a b : ℕ} (h : a ≤ b) (hb : b ≤ 254) : pw a ≤ pw b := by
  rcases Nat.eq_zero_or_pos a with rfl | ha
  · rw [pw_zero]
    rcases Nat.eq_zero_or_pos b with rfl | hb'
    · rw [pw_zero]
    · exact (pw_pos b hb' hb).le
  · rw [pw_eq a ha (by omega), pw_eq b (by omega) hb]
    exact EReal.coe_le_coe_iff.mpr (zpow_le_zpow_right₀ (by norm_num) (by omega))

theorem pw_lt_top (n : ℕ) (h2 : n ≤ 254) : pw n < ⊤ := by
  rcases Nat.eq_zero_or_pos n with rfl | h
  · rw [pw_zero]; exact EReal.zero_lt_top
  · rw [pw_eq n h h2]; exact EReal.coe_lt_top _

/-- The inverse of the scale at field `n` is the float at the mirrored field. -/
theorem pw_inv (n : ℕ) (h1 : 1 ≤ n) (h2 : n ≤ 252) : (pw (n + 1))⁻¹ = pw (253 - n) := by
  rw [pw_eq (n + 1) (by omega) (by omega), pw_eq (253 - n) (by omega) (by omega), ← EReal.coe_inv]
  congr 1
  rw [← zpow_neg]; congr 1; push_cast [Nat.cast_sub (show n ≤ 253 by omega)]; ring

/-! ## The search -/

theorem shl23 (n : ℕ) : IntOp.shli .vector (BitVec.ofNat 32 n) 23#32 = BitVec.ofNat 32 (n * 2 ^ 23) := by
  unfold IntOp.shli
  rw [if_pos (by decide)]
  apply BitVec.eq_of_toNat_eq
  simp [BitVec.toNat_shiftLeft, Nat.shiftLeft_eq, BitVec.toNat_ofNat, Nat.mod_mul_mod]

theorem addi_ofNat (n s : ℕ) : IntOp.addi (BitVec.ofNat 32 n) (BitVec.ofNat 32 s) = BitVec.ofNat 32 (n + s) := by
  unfold IntOp.addi; exact (BitVec.ofNat_add n s).symm

/-- One step on natural fields. -/
theorem bump_ofNat (v : Ideal .f32) (n s : ℕ) :
    bump v (BitVec.ofNat 32 n) (BitVec.ofNat 32 s) = BitVec.ofNat 32 (if pw (n + s) ≤ v then n + s else n) := by
  unfold bump
  rw [addi_ofNat, shl23]
  show Scalar.select (BitVec.ofBool (decide (pw (n + s) ≤ v))) _ _ = _
  by_cases h : pw (n + s) ≤ v <;> simp [h, Scalar.select]

/-- What the search has established with `r` still to be added at most: `v` is at least the float at `n`, and below the
    one past `n + r` unless the search has been upward at every step. -/
def Inv (v : EReal) (n r : ℕ) : Prop := pw n ≤ v ∧ n + r ≤ 252 ∧ (v < pw (n + r + 1) ∨ n + r = 252)

/-- One step of the search keeps what it has established. -/
theorem Inv.step {v : Ideal .f32} {f : BitVec 32} {r : ℕ} (h : ∃ n, f = BitVec.ofNat 32 n ∧ Inv v n r) (s r' : ℕ)
    (hs : s + r' = r) (hr : s ≤ r' + 1) :
    ∃ n, bump v f (BitVec.ofNat 32 s) = BitVec.ofNat 32 n ∧ Inv v n r' := by
  obtain ⟨n, rfl, h1, h2, h3⟩ := h
  refine ⟨_, bump_ofNat v n s, ?_⟩
  by_cases hv : pw (n + s) ≤ v
  · rw [if_pos hv]
    exact ⟨hv, by omega, by rw [show n + s + r' = n + r by omega]; exact h3⟩
  · rw [if_neg hv]
    exact ⟨h1, by omega, Or.inl (lt_of_lt_of_le (not_le.mp hv) (pw_mono (by omega) (by omega)))⟩

/-- The search ends at the greatest field in 0 … 252 whose float is at most `v`. -/
theorem field_spec (v : Ideal .f32) (h0 : (0 : EReal) ≤ v) :
    ∃ n : ℕ, field v = BitVec.ofNat 32 n ∧ n ≤ 252 ∧ pw n ≤ v ∧ (v < pw (n + 1) ∨ n = 252) := by
  have i0 : ∃ n, (0#32 : BitVec 32) = BitVec.ofNat 32 n ∧ Inv v n 252 :=
    ⟨0, rfl, by rw [pw_zero]; exact h0, by omega, Or.inr rfl⟩
  have i1 := Inv.step i0 125 127 (by omega) (by omega)
  have i2 := Inv.step i1 64 63 (by omega) (by omega)
  have i3 := Inv.step i2 32 31 (by omega) (by omega)
  have i4 := Inv.step i3 16 15 (by omega) (by omega)
  have i5 := Inv.step i4 8 7 (by omega) (by omega)
  have i6 := Inv.step i5 4 3 (by omega) (by omega)
  have i7 := Inv.step i6 2 1 (by omega) (by omega)
  obtain ⟨n, hn, h1, h2, h3⟩ := Inv.step i7 1 0 (by omega) (by omega)
  exact ⟨n, hn, h2, h1, h3⟩

/-! ## The reference's scale -/

/-- The value at one exponent of the reference's table of powers: the power where it is above `v`, else the largest. -/
def above (v : EReal) (k : Fin 252) : EReal := if v < pw (k.val + 2) then pw (k.val + 2) else pw 253

/-- The reference's scale of a group with `v`: the least power of two above `v`, and one where `v` is below the
    smallest normal float or infinite. -/
def rScale (v : EReal) : EReal :=
  if v < pw 1 ∨ v = ⊤ then 1 else (Finset.univ : Finset (Fin 252)).fold min ⊤ (above v)

/-- The least power of two above `v`, found at the search's field. -/
theorem fold_above (v : EReal) (n : ℕ) (h1 : 1 ≤ n) (h2 : n ≤ 252) (hn : pw n ≤ v) (hu : v < pw (n + 1) ∨ n = 252) :
    (Finset.univ : Finset (Fin 252)).fold min ⊤ (above v) = pw (n + 1) := by
  apply le_antisymm
  · refine (Finset.fold_min_le _).mpr (Or.inr ⟨⟨n - 1, by omega⟩, Finset.mem_univ _, ?_⟩)
    unfold above
    dsimp only
    rw [show n - 1 + 2 = n + 1 by omega]
    by_cases hv : v < pw (n + 1)
    · rw [if_pos hv]
    · rw [if_neg hv]; rcases hu with hu | rfl
      · exact absurd hu hv
      · exact le_rfl
  · refine (Finset.le_fold_min _).mpr ⟨le_top, fun k _ => ?_⟩
    have hk := k.isLt
    unfold above
    by_cases hv : v < pw (k.val + 2)
    · rw [if_pos hv]
      refine pw_mono ?_ (by omega)
      by_contra hc
      exact absurd (lt_of_lt_of_le hv (pw_mono (show k.val + 2 ≤ n by omega) (by omega))) (not_lt.mpr hn)
    · rw [if_neg hv]; exact pw_mono (by omega) (by omega)

/-! ## The equation -/

/-- The mirrored field, on words. -/
theorem subi_field (n : ℕ) (h : n ≤ 252) :
    IntOp.subi (BitVec.ofNat 32 (253 * 2 ^ 23)) (BitVec.ofNat 32 (n * 2 ^ 23)) = BitVec.ofNat 32 ((253 - n) * 2 ^ 23) := by
  unfold IntOp.subi
  apply BitVec.eq_of_toNat_eq
  rw [BitVec.toNat_sub, BitVec.toNat_ofNat, BitVec.toNat_ofNat, BitVec.toNat_ofNat]
  omega

/-- A selection on an unset bit takes the second value. -/
theorem select_zero {α : Type} (a b : α) : Scalar.select 0#1 a b = b := if_neg (by decide)

/-- The float infinity is the top of the extended reals. -/
theorem inf_eq : (FloatOps.ofBits .f32 0x7F800000#32 : Ideal .f32) = (⊤ : EReal) := by
  simp [Ideal.ofBits, Ideal.ieee]

theorem one_eq : (Ideal.ofBits .f32 1065353216#32 : EReal) = 1 := by
  rw [show (1065353216#32 : BitVec 32) = BitVec.ofNat 32 (127 * 2 ^ 23) from rfl]
  exact (pw_eq 127 (by omega) (by omega)).trans (by norm_num)

theorem expBits_top : expBits (F := Ideal) (⊤ : EReal) = 2139095040#32 := by
  unfold expBits
  rw [inf_eq]
  show Scalar.select (BitVec.ofBool (decide ((⊤ : EReal) = ⊤))) _ _ = _
  simp [Scalar.select]

theorem expBits_of_ne (v : Ideal .f32) (hv : v ≠ (⊤ : EReal)) (n : ℕ) (hf : field v = BitVec.ofNat 32 n) :
    expBits v = BitVec.ofNat 32 (n * 2 ^ 23) := by
  unfold expBits
  rw [inf_eq, hf, shl23]
  show Scalar.select (BitVec.ofBool (decide ((v : EReal) = ⊤))) _ _ = _
  simp [Scalar.select, hv]

theorem plain_of (v : Ideal .f32) (h : expBits v = 0#32 ∨ expBits v = 2139095040#32) : plain v = 1#1 := by
  unfold plain; rcases h with h | h <;> rw [h] <;> decide

theorem plain_of_normal (v : Ideal .f32) (n : ℕ) (h1 : 1 ≤ n) (h2 : n ≤ 252) (h : expBits v = BitVec.ofNat 32 (n * 2 ^ 23)) :
    plain v = 0#1 := by
  have ha : expBits v ≠ 0#32 := fun hc => by
    have := congrArg BitVec.toNat (h.symm.trans hc)
    rw [BitVec.toNat_ofNat, Nat.mod_eq_of_lt (by omega)] at this; simp at this; omega
  have hb : expBits v ≠ 2139095040#32 := fun hc => by
    have := congrArg BitVec.toNat (h.symm.trans hc)
    rw [BitVec.toNat_ofNat, Nat.mod_eq_of_lt (by omega)] at this; simp at this; omega
  unfold plain IntOp.cmpi
  simp only [beq_eq_false_iff_ne.mpr ha, beq_eq_false_iff_ne.mpr hb]
  decide

/-- Where the exponent bits say so, scale and inverse are one. -/
theorem kScale_plain (v : Ideal .f32) (h : expBits v = 0#32 ∨ expBits v = 2139095040#32) :
    kScale v = (1 : EReal) ∧ kInv v = (1 : EReal) := by
  unfold kScale kInv
  rw [plain_of v h]
  exact ⟨one_eq, one_eq⟩

/-- THE EQUATION: for a nonnegative `v` the kernel's scale is the reference's, and the kernel's inverse scale is its
    inverse; and the scale is a positive real. -/
theorem scale_eq (v : Ideal .f32) (h0 : (0 : EReal) ≤ v) :
    kScale v = rScale v ∧ (kInv v : EReal) = (rScale v)⁻¹ ∧ rScale v ≠ 0 := by
  by_cases ht : (v : EReal) = ⊤
  · obtain ⟨ha, hb⟩ := kScale_plain v (Or.inr (by rw [show v = (⊤ : EReal) from ht]; exact expBits_top))
    have hr : rScale v = 1 := if_pos (Or.inr ht)
    rw [ha, hb, hr]
    exact ⟨rfl, by simp, one_ne_zero⟩
  · obtain ⟨n, hf, hn, hl, hu⟩ := field_spec v h0
    have hb := expBits_of_ne v ht n hf
    rcases Nat.eq_zero_or_pos n with rfl | h1
    · have hv : v < pw 1 := by rcases hu with hu | hu; exact hu; omega
      obtain ⟨ha, hi⟩ := kScale_plain v (Or.inl (by rw [hb]; rfl))
      have hr : rScale v = 1 := if_pos (Or.inl hv)
      rw [ha, hi, hr]
      exact ⟨rfl, by simp, one_ne_zero⟩
    · have hp := plain_of_normal v n h1 hn hb
      have hr : rScale v = pw (n + 1) := by
        unfold rScale
        rw [if_neg, fold_above v n h1 hn hl hu]
        rintro (h | h)
        · exact absurd h (not_lt.mpr ((pw_mono h1 (by omega)).trans hl))
        · exact ht h
      refine ⟨?_, ?_, ?_⟩
      · unfold kScale
        rw [hp, hr, hb]
        rw [select_zero, show (8388608#32 : BitVec 32) = BitVec.ofNat 32 (1 * 2 ^ 23) by decide, addi_ofNat, ← Nat.add_mul]
        rfl
      · unfold kInv
        rw [hp, hr, hb, pw_inv n h1 hn]
        rw [select_zero, show (2122317824#32 : BitVec 32) = BitVec.ofNat 32 (253 * 2 ^ 23) by decide]
        rw [subi_field n hn]
        rfl
      · rw [hr]; exact (pw_pos _ (by omega) (by omega)).ne'

end Cert.Scale

end
-- ==== Proof.Spec.lean ====
/-
  WHAT ONE GROUP OF 128 RESULTS IS, over the extended reals: the SwiGLU values of one row and one group, the row's
  largest absolute value over 448, the power-of-two scale and the quantised codes. The kernel's form (scale and inverse
  from exponent bits) is proved equal to the reference's (least power of two above, and a division).
-/
module

public import proofs.«01_k».proof.Proof.Scale

@[expose] public section

set_option maxRecDepth 16384

noncomputable section

open Idealize.ShloMosaic

namespace Cert.Spec

open Cert.Scale

/-- The float the kernel and the reference multiply by in place of a division by 448. -/
def c448inv : EReal := Ideal.ofBits .f32 0x3B124925#32

/-- The clip's bounds. -/
def hi448 : EReal := Ideal.ofBits .f32 0x43E00000#32
def lo448 : EReal := Ideal.ofBits .f32 0xC3E00000#32

/-- One SwiGLU value: from the gate's and up's accumulated products, the row's scale and the two columns' scales. -/
def hval (ga ua xs sg su : EReal) : EReal := ga * xs * sg * Ideal.logistic (ga * xs * sg) * (ua * xs * su)

/-- The product of a row of activations with a column of weights. -/
def dot (a b : Fin 6912 → EReal) : EReal := ∑ k, a k * b k

/-- The 128 SwiGLU values of one row and one group. -/
def gH (a : Fin 6912 → EReal) (xs : EReal) (wg wu : Fin 128 → Fin 6912 → EReal) (sg su : Fin 128 → EReal) (l : Fin 128) : EReal :=
  hval (dot a (wg l)) (dot a (wu l)) xs (sg l) (su l)

/-- The group's largest absolute value. -/
def gM (h : Fin 128 → EReal) : EReal := (Finset.univ : Finset (Fin 128)).fold max ⊥ fun l => max (h l) (-(h l))

/-- The group's largest absolute value over 448. -/
def gV (h : Fin 128 → EReal) : EReal := gM h * c448inv

/-- The group's scale, as the reference states it. -/
def gS (h : Fin 128 → EReal) : EReal := rScale (gV h)

/-- The group's codes, as the reference states them. -/
def gQ (h : Fin 128 → EReal) (l : Fin 128) : EReal := min hi448 (max lo448 (Ideal.div (h l) (gS h)))

/-- The group's codes, as the kernel computes them. -/
def kQ (h : Fin 128 → EReal) (l : Fin 128) : EReal :=
  min hi448 (max lo448 (h l * (kInv (F := Ideal) (gV h) : EReal)))

/-- The float negative infinity is the bottom of the extended reals. -/
theorem neg_inf_eq : Ideal.ofBits .f32 0xFF800000#32 = (⊥ : EReal) := by
  simp [Ideal.ofBits, Ideal.ieee]

/-- The constant is not negative. -/
theorem c448inv_nonneg : 0 ≤ c448inv := by
  unfold c448inv Ideal.ofBits Ideal.ieee
  have h1 : ((0x3B124925#32 : BitVec 32).extractLsb' 23 8).toNat = 118 := by decide
  have h2 : ((0x3B124925#32 : BitVec 32).extractLsb' 0 23).toNat = 1198373 := by decide
  have h3 : ((0x3B124925#32 : BitVec 32).extractLsb' 31 1 == 1#1) = false := by decide
  simp only [h1, h2, h3, show (8 + 23 : ℕ) = 31 from rfl]
  rw [if_neg (by norm_num), if_neg (by norm_num)]
  rw [if_neg (by decide), one_mul]
  exact EReal.coe_nonneg.mpr (by positivity)

/-- The largest absolute value is not negative. -/
theorem gM_nonneg (h : Fin 128 → EReal) : 0 ≤ gM h := by
  refine (Finset.le_fold_max _).mpr (Or.inr ⟨0, Finset.mem_univ _, ?_⟩)
  rcases le_total 0 (h 0) with h0 | h0
  · exact h0.trans (le_max_left _ _)
  · exact (EReal.neg_nonneg.mpr h0).trans (le_max_right _ _)

/-- Nor is it after the product with the constant. -/
theorem gV_nonneg (h : Fin 128 → EReal) : 0 ≤ gV h := mul_nonneg (gM_nonneg h) c448inv_nonneg

/-- The kernel's scale of a group is the reference's. -/
theorem kScale_eq (h : Fin 128 → EReal) : (kScale (F := Ideal) (gV h) : EReal) = gS h := (scale_eq (gV h) (gV_nonneg h)).1

/-- The kernel's codes of a group are the reference's: multiplying by the inverse scale is dividing by the scale. -/
theorem kQ_eq (h : Fin 128 → EReal) (l : Fin 128) : kQ h l = gQ h l := by
  obtain ⟨-, hi, hn⟩ := scale_eq (gV h) (gV_nonneg h)
  unfold kQ gQ gS Ideal.div
  rw [if_neg hn, hi]

/-! ## The whole results -/

/-- The SwiGLU values of row `R` and group `G` of the whole problem: gate columns from `256 G`, up columns from `256 G + 128`. -/
def rowH (X : Fin 32768 → Fin 6912 → EReal) (XS : Fin 32768 → EReal) (W : Fin 6912 → Fin 5120 → EReal) (WS : Fin 5120 → EReal)
    (R : Fin 32768) (G : Fin 20) : Fin 128 → EReal :=
  gH (X R) (XS R) (fun l k => W k ⟨256 * G.val + l.val, by omega⟩) (fun l k => W k ⟨256 * G.val + 128 + l.val, by omega⟩)
    (fun l => WS ⟨256 * G.val + l.val, by omega⟩) (fun l => WS ⟨256 * G.val + 128 + l.val, by omega⟩)

end Cert.Spec

end
-- ==== Proof.Block.lean ====
/-
  WHAT ONE BLOCK'S PAYLOADS COMPUTE, read at one element: the two groups' SwiGLU values, largest absolute values, codes
  and scales, in the words of Spec.lean.
-/
module

public import proofs.«01_k».proof.Proof.Spec
public import proofs.«01_k».proof.Proof.Gen.KernelIdeal.Skeleton
public import Idealize.ShloMosaic.Lib.Pointwise

@[expose] public section

set_option maxRecDepth 16384

noncomputable section

open Idealize.ShloMosaic

namespace Cert.KernelIdeal.Hand

open Cert.KernelIdeal Cert.KernelIdeal.Gen Cert.Spec Cert.Scale

variable (x : Vec Ideal S1024x6912 .fp8e4m3) (w : Vec Ideal S6912x512 .fp8e4m3) (xs : Vec Ideal S1024x128 .f32)
  (sg su : Vec Ideal S1x128 .f32)

/-- The SwiGLU values of block row `r` and the group whose gate columns start at `o` and up columns at `o + 128`. -/
def bH (x : Vec Ideal S1024x6912 .fp8e4m3) (w : Vec Ideal S6912x512 .fp8e4m3) (xr : EReal) (sg su : Vec Ideal S1x128 .f32)
    (og ou : ℕ) (hg : og + 128 ≤ 512) (hu : ou + 128 ≤ 512) (r : Fin 1024) (l : Fin 128) : EReal :=
  gH (fun k => x (ix2 r k)) xr (fun l k => w (ix2 k ⟨og + l.val, by omega⟩)) (fun l k => w (ix2 k ⟨ou + l.val, by omega⟩))
    (fun l => sg (ix2 0 l)) (fun l => su (ix2 0 l)) l

/-- A select on the equality of two words is a choice on that equality. -/
theorem select_eq {α : Type} (a b : BitVec 32) (p q : α) :
    Scalar.select (IntOp.cmpi .eq a b) p q = if a = b then p else q := by
  show (if BitVec.ofBool (a == b) = 1#1 then p else q) = _
  by_cases h : a = b
  · subst h; simp
  · rw [if_neg h, if_neg (by rw [beq_eq_false_iff_ne.mpr h]; decide)]

/-- The lane a group of block `j` is stored in, as a word. -/
theorem lane_eq (g : Fin 20) (j e : ℕ) (hj : j < 10) (he : e < 2) :
    (BitVec.ofNat 32 g.val = Scalar.addi (Scalar.muli (BitVec.ofNat 32 j) 2#32) (BitVec.ofNat 32 e)) ↔ g.val = 2 * j + e := by
  show (BitVec.ofNat 32 g.val = BitVec.ofNat 32 j * 2#32 + BitVec.ofNat 32 e) ↔ _
  rw [show (BitVec.ofNat 32 j * 2#32 + BitVec.ofNat 32 e) = BitVec.ofNat 32 (2 * j + e) by
    apply BitVec.eq_of_toNat_eq; simp; omega]
  constructor
  · intro h
    have := congrArg BitVec.toNat h
    simp only [BitVec.toNat_ofNat] at this
    omega
  · intro h; rw [h]

/-- The lanes of a row of scales. -/
theorem lanes_apply (r : Fin 1024) (g : Fin 20) :
    (iota .tc S1024x20 32 [1] iota_S1024x20_d1_w32) (ix2 r g) = BitVec.ofNat 32 g.val := by
  pointwise []

/-! ## Group 0 -/

/-- Group 0's SwiGLU values. -/
theorem pay14_apply (r : Fin 1024) (l : Fin 128) :
    k0_pay14 x w xs sg su (ix2 r l) = bH x w (xs (ix2 r l)) sg su 0 128 (by omega) (by omega) r l := by
  unfold bH gH hval dot
  pointwise [k0_pay14, k0_pay13]

/-- Group 0's largest absolute value over 448. -/
theorem pay15_apply (r : Fin 1024) : k0_pay15 x w xs sg su (ix2 r 0) = gV fun l => k0_pay14 x w xs sg su (ix2 r l) := by
  pointwise [k0_pay15]
  unfold gV gM c448inv
  rw [neg_inf_eq]
  rfl

/-- Group 0's exponent bits. -/
theorem bits0 (j : S1024x1.Idx) :
    k0_pay21 (k0_pay15 x w xs sg su) (k0_pay18 (k0_pay15 x w xs sg su) (k0_pay16 x w xs sg su) k0_pay17)
      (k0_pay19 (k0_pay15 x w xs sg su) (k0_pay16 x w xs sg su) k0_pay17)
      (k0_pay20 (k0_pay15 x w xs sg su) (k0_pay16 x w xs sg su) k0_pay17) j = expBits (k0_pay15 x w xs sg su j) := by
  rfl

/-- The codes the first store writes, from the exponent bits. -/
theorem pay23_apply (h : FVec Ideal S1024x128 .f32) (v : FVec Ideal S1024x1 .f32) (a b : IVec S1024x1 32) (c : IVec S1024x1 1)
    (hE : ∀ j, k0_pay21 v a b c j = expBits (v j)) (r : Fin 1024) (l : Fin 128) :
    k0_pay23 h v a b c (ix2 r l) = min hi448 (max lo448 (h (ix2 r l) * (kInv (F := Ideal) (v (ix2 r 0)) : EReal))) := by
  pointwise [k0_pay23, k0_pay22]
  simp only [hE]
  rfl

/-- The scales with group 0's in place, from the exponent bits. -/
theorem pay24_apply (i : BitVec 32) (io : IVec S1024x20 32) (v : FVec Ideal S1024x1 .f32) (a b : IVec S1024x1 32) (c : IVec S1024x1 1)
    (o : Vec Ideal S1024x20 .f32)
    (hE : ∀ j, k0_pay21 v a b c j = expBits (v j)) (r : Fin 1024) (g : Fin 20) :
    k0_pay24 i io v a b c o (ix2 r g) =
      if io (ix2 r g) = Scalar.addi (Scalar.muli i 2#32) (BitVec.ofNat 32 0) then kScale (F := Ideal) (v (ix2 r 0)) else o (ix2 r g) := by
  pointwise [k0_pay24, k0_pay22]
  simp only [hE]
  rw [select_eq]
  rfl

/-! ## Group 1 -/

/-- Group 1's SwiGLU values. -/
theorem pay25_apply (r : Fin 1024) (l : Fin 128) :
    k0_pay25 (k0_pay13 x w) xs sg su (ix2 r l) = bH x w (xs (ix2 r l)) sg su 256 384 (by omega) (by omega) r l := by
  unfold bH gH hval dot
  pointwise [k0_pay25, k0_pay13]

/-- Group 1's largest absolute value over 448. -/
theorem pay26_apply (y : FVec Ideal S1024x512 .f32) (r : Fin 1024) :
    k0_pay26 y xs sg su (ix2 r 0) = gV fun l => k0_pay25 y xs sg su (ix2 r l) := by
  pointwise [k0_pay26]
  unfold gV gM c448inv
  rw [neg_inf_eq]
  rfl

/-- Group 1's exponent bits. -/
theorem bits1 (y : FVec Ideal S1024x512 .f32) (j : S1024x1.Idx) :
    k0_pay29 (k0_pay26 y xs sg su) (k0_pay27 y xs sg su) (k0_pay28 y xs sg su) 23#32 j = expBits (k0_pay26 y xs sg su j) := by
  rfl

/-- Whether group 1 keeps scale one. -/
theorem plain1 (y : FVec Ideal S1024x512 .f32) (j : S1024x1.Idx) :
    k0_pay30 (k0_pay26 y xs sg su) (k0_pay27 y xs sg su) (k0_pay28 y xs sg su) 23#32 j = plain (k0_pay26 y xs sg su j) := by
  rfl

/-- Group 1's raised exponent bits. -/
theorem raised1 (y : FVec Ideal S1024x512 .f32) (j : S1024x1.Idx) :
    k0_pay31 (k0_pay26 y xs sg su) (k0_pay27 y xs sg su) (k0_pay28 y xs sg su) 23#32 j =
      IntOp.addi (expBits (k0_pay26 y xs sg su j)) 8388608#32 := by
  rfl

/-- The codes the second store writes, from the exponent bits. -/
theorem pay1_apply (h : FVec Ideal S1024x128 .f32) (v : FVec Ideal S1024x1 .f32) (a : IVec S1024x1 32) (p : IVec S1024x1 1)
    (hE : ∀ j, a j = expBits (v j)) (hP : ∀ j, p j = plain (v j)) (r : Fin 1024) (l : Fin 128) :
    k0_pay1 h a p (ix2 r l) = min hi448 (max lo448 (h (ix2 r l) * (kInv (F := Ideal) (v (ix2 r 0)) : EReal))) := by
  pointwise [k0_pay1]
  simp only [hE, hP]
  rfl

/-- The scales with group 1's in place, from the exponent bits. -/
theorem pay2_apply (i : BitVec 32) (io : IVec S1024x20 32) (v : FVec Ideal S1024x1 .f32) (p : IVec S1024x1 1) (a : IVec S1024x1 32)
    (o : Vec Ideal S1024x20 .f32)
    (hP : ∀ j, p j = plain (v j)) (hE : ∀ j, a j = IntOp.addi (expBits (v j)) 8388608#32) (r : Fin 1024) (g : Fin 20) :
    k0_pay2 i io p a o (ix2 r g) =
      if io (ix2 r g) = Scalar.addi (Scalar.muli i 2#32) (BitVec.ofNat 32 1) then kScale (F := Ideal) (v (ix2 r 0)) else o (ix2 r g) := by
  pointwise [k0_pay2]
  simp only [hE, hP]
  rw [select_eq]
  rfl

/-! ## What a block stores -/

/-- The first store's codes: group 0's, as the reference states them. -/
theorem codes0 (r : Fin 1024) (ρ : EReal) (hx : ∀ l, xs (ix2 r l) = ρ) (l : Fin 128) :
    k0_pay23 (k0_pay14 x w xs sg su) (k0_pay15 x w xs sg su) (k0_pay18 (k0_pay15 x w xs sg su) (k0_pay16 x w xs sg su) k0_pay17)
      (k0_pay19 (k0_pay15 x w xs sg su) (k0_pay16 x w xs sg su) k0_pay17)
      (k0_pay20 (k0_pay15 x w xs sg su) (k0_pay16 x w xs sg su) k0_pay17) (ix2 r l) =
      gQ (bH x w ρ sg su 0 128 (by omega) (by omega) r) l := by
  rw [pay23_apply _ _ _ _ _ (bits0 x w xs sg su), pay15_apply, ← kQ_eq]
  unfold kQ
  simp only [pay14_apply, hx]

/-- The second store's codes: group 1's, as the reference states them. -/
theorem codes1 (r : Fin 1024) (ρ : EReal) (hx : ∀ l, xs (ix2 r l) = ρ) (l : Fin 128) :
    k0_pay1 (k0_pay25 (k0_pay13 x w) xs sg su)
      (k0_pay29 (k0_pay26 (k0_pay13 x w) xs sg su) (k0_pay27 (k0_pay13 x w) xs sg su) (k0_pay28 (k0_pay13 x w) xs sg su) 23#32)
      (k0_pay30 (k0_pay26 (k0_pay13 x w) xs sg su) (k0_pay27 (k0_pay13 x w) xs sg su) (k0_pay28 (k0_pay13 x w) xs sg su) 23#32) (ix2 r l) =
      gQ (bH x w ρ sg su 256 384 (by omega) (by omega) r) l := by
  rw [pay1_apply _ _ _ _ (bits1 xs sg su (k0_pay13 x w)) (plain1 xs sg su (k0_pay13 x w)), pay26_apply, ← kQ_eq]
  unfold kQ
  simp only [pay25_apply, hx]

/-- The scales a block stores: its two groups' lanes set, the other lanes as they were. -/
theorem scales (sg0 su0 sg1 su1 : Vec Ideal S1x128 .f32) (o : Vec Ideal S1024x20 .f32) (j : ℕ) (hj : j < 10)
    (r : Fin 1024) (ρ : EReal) (hx : ∀ l, xs (ix2 r l) = ρ) (g : Fin 20) :
    k0_pay2 (BitVec.ofNat 32 j) (iota .tc S1024x20 32 [1] iota_S1024x20_d1_w32)
      (k0_pay30 (k0_pay26 (k0_pay13 x w) xs sg1 su1) (k0_pay27 (k0_pay13 x w) xs sg1 su1) (k0_pay28 (k0_pay13 x w) xs sg1 su1) 23#32)
      (k0_pay31 (k0_pay26 (k0_pay13 x w) xs sg1 su1) (k0_pay27 (k0_pay13 x w) xs sg1 su1) (k0_pay28 (k0_pay13 x w) xs sg1 su1) 23#32)
      (k0_pay24 (BitVec.ofNat 32 j) (iota .tc S1024x20 32 [1] iota_S1024x20_d1_w32) (k0_pay15 x w xs sg0 su0)
        (k0_pay18 (k0_pay15 x w xs sg0 su0) (k0_pay16 x w xs sg0 su0) k0_pay17)
        (k0_pay19 (k0_pay15 x w xs sg0 su0) (k0_pay16 x w xs sg0 su0) k0_pay17)
        (k0_pay20 (k0_pay15 x w xs sg0 su0) (k0_pay16 x w xs sg0 su0) k0_pay17) o) (ix2 r g) =
      if g.val = 2 * j + 1 then gS (bH x w ρ sg1 su1 256 384 (by omega) (by omega) r)
      else if g.val = 2 * j + 0 then gS (bH x w ρ sg0 su0 0 128 (by omega) (by omega) r)
      else o (ix2 r g) := by
  rw [pay2_apply _ _ _ _ _ _ (plain1 xs sg1 su1 (k0_pay13 x w)) (raised1 xs sg1 su1 (k0_pay13 x w)),
    pay24_apply _ _ _ _ _ _ _ (bits0 x w xs sg0 su0), lanes_apply, pay26_apply, pay15_apply, kScale_eq, kScale_eq]
  simp only [lane_eq g j 1 hj (by omega), lane_eq g j 0 hj (by omega), pay25_apply, pay14_apply, hx]

end Cert.KernelIdeal.Hand

end
-- ==== Proof.Outs.lean ====
/-
  WHAT THE GENERATED BLOCK RESULTS ARE: each buffer a grid step leaves, read at one element, in the words of Spec.lean.
-/
module

public import proofs.«01_k».proof.Proof.Gen.KernelIdeal.Value
public import proofs.«01_k».proof.Proof.Block
public import Idealize.ShloMosaic.Lib.Tactic
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal Cert.KernelIdeal.Gen Cert.Spec

/-- A row of 128 values laid down a column, the same in every lane. -/
theorem col_apply (v : Vec Ideal S1x128 .f32) (a b : Fin 128) :
    (shapeCast S128x128 (transpose S128x128 [1, 0] (broadcastTo S128x128 (shapeCast S1x128 (shapeCast S1x128 v
      shapeCasts_S1x128_S1x128) shapeCasts_S1x128_S1x128) broadcasts_S1x128_S128x128) transposes_S128x128_p1_0_S128x128)
      shapeCasts_S128x128_S128x128 : Vec Ideal S128x128 .f32) (ix2 a b) = v (ix2 0 a) := by
  pointwise []

/-- The scratch a first step of a row block fills: the row's scale in every lane. -/
def spread (x1 : Vec Ideal S8x128 .f32) : Vec Ideal S1024x128 .f32 :=
  fun j => x1 (ix2 ⟨(j 0).val / 128, by have := (j 0).isLt; simp only [S1024x128] at this; change (j 0).val < 1024 at this; omega⟩ ⟨(j 0).val % 128, Nat.mod_lt _ (by omega)⟩)

/-- The eight stores that fill the scratch leave `spread`. -/
theorem scratch_tiles (sc : Vec Ideal S8x128 .f32) :
    View.canon (s := S1024x128) (e := .f32) (Val := Elt Ideal) [⟨Rect.unit ![896, 0] ![128, 128] inb_S1024x128_S128x128_896_0, k0_pay11 (F := Ideal) (View.ld sc (Rect.unit ![7, 0] ![1, 128] inb_S8x128_S1x128_7_0))⟩,
        ⟨Rect.unit ![768, 0] ![128, 128] inb_S1024x128_S128x128_768_0, k0_pay10 (F := Ideal) (View.ld sc (Rect.unit ![6, 0] ![1, 128] inb_S8x128_S1x128_6_0))⟩,
        ⟨Rect.unit ![640, 0] ![128, 128] inb_S1024x128_S128x128_640_0, k0_pay9 (F := Ideal) (View.ld sc (Rect.unit ![5, 0] ![1, 128] inb_S8x128_S1x128_5_0))⟩,
        ⟨Rect.unit ![512, 0] ![128, 128] inb_S1024x128_S128x128_512_0, k0_pay8 (F := Ideal) (transpose S128x128 [1, 0] (broadcastTo S128x128 (shapeCast S1x128 (shapeCast S1x128 (View.ld sc (Rect.unit ![4, 0] ![1, 128] inb_S8x128_S1x128_4_0)) shapeCasts_S1x128_S1x128) shapeCasts_S1x128_S1x128) broadcasts_S1x128_S128x128) transposes_S128x128_p1_0_S128x128)⟩,
        ⟨Rect.unit ![384, 0] ![128, 128] inb_S1024x128_S128x128_384_0, shapeCast S128x128 (transpose S128x128 [1, 0] (broadcastTo S128x128 (shapeCast S1x128 (shapeCast S1x128 (View.ld sc (Rect.unit ![3, 0] ![1, 128] inb_S8x128_S1x128_3_0)) shapeCasts_S1x128_S1x128) shapeCasts_S1x128_S1x128) broadcasts_S1x128_S128x128) transposes_S128x128_p1_0_S128x128) shapeCasts_S128x128_S128x128⟩,
        ⟨Rect.unit ![256, 0] ![128, 128] inb_S1024x128_S128x128_256_0, shapeCast S128x128 (transpose S128x128 [1, 0] (broadcastTo S128x128 (shapeCast S1x128 (shapeCast S1x128 (View.ld sc (Rect.unit ![2, 0] ![1, 128] inb_S8x128_S1x128_2_0)) shapeCasts_S1x128_S1x128) shapeCasts_S1x128_S1x128) broadcasts_S1x128_S128x128) transposes_S128x128_p1_0_S128x128) shapeCasts_S128x128_S128x128⟩,
        ⟨Rect.unit ![128, 0] ![128, 128] inb_S1024x128_S128x128_128_0, shapeCast S128x128 (transpose S128x128 [1, 0] (broadcastTo S128x128 (shapeCast S1x128 (shapeCast S1x128 (View.ld sc (Rect.unit ![1, 0] ![1, 128] inb_S8x128_S1x128_1_0)) shapeCasts_S1x128_S1x128) shapeCasts_S1x128_S1x128) broadcasts_S1x128_S128x128) transposes_S128x128_p1_0_S128x128) shapeCasts_S128x128_S128x128⟩,
        ⟨Rect.unit ![0, 0] ![128, 128] inb_S1024x128_S128x128_0_0, shapeCast S128x128 (transpose S128x128 [1, 0] (broadcastTo S128x128 (shapeCast S1x128 (shapeCast S1x128 (View.ld sc (Rect.unit ![0, 0] ![1, 128] inb_S8x128_S1x128_0_0)) shapeCasts_S1x128_S1x128) shapeCasts_S1x128_S1x128) broadcasts_S1x128_S128x128) transposes_S128x128_p1_0_S128x128) shapeCasts_S128x128_S128x128⟩] = spread sc := by
  funext j
  canon_tiles x h
  all_goals
    idx_vars x
    first
    | refine (col_apply _ _ _).trans ?_
    refine congrArg sc (funext fun a => Fin.ext ?_)
    match a with
    | ⟨0, _⟩ =>
      rw [Rect.idx_unit_val]
      simp at h0 ⊢
      omega
    | ⟨1, _⟩ =>
      rw [Rect.idx_unit_val]
      simp at h0 ⊢
      omega

/-- So a read of the whole scratch after them is `spread`. -/
theorem scratch_read {sig : RefSig} {κ : Kind} {sp : Space} (v : View sig κ sp S1024x128 .f32) (x1 : Vec Ideal S8x128 .f32) :
    v.readCov [⟨Rect.unit ![896, 0] ![128, 128] inb_S1024x128_S128x128_896_0, k0_pay11 (F := Ideal) (View.ld x1 (Rect.unit ![7, 0] ![1, 128] inb_S8x128_S1x128_7_0))⟩,
        ⟨Rect.unit ![768, 0] ![128, 128] inb_S1024x128_S128x128_768_0, k0_pay10 (F := Ideal) (View.ld x1 (Rect.unit ![6, 0] ![1, 128] inb_S8x128_S1x128_6_0))⟩,
        ⟨Rect.unit ![640, 0] ![128, 128] inb_S1024x128_S128x128_640_0, k0_pay9 (F := Ideal) (View.ld x1 (Rect.unit ![5, 0] ![1, 128] inb_S8x128_S1x128_5_0))⟩,
        ⟨Rect.unit ![512, 0] ![128, 128] inb_S1024x128_S128x128_512_0, k0_pay8 (F := Ideal) (transpose S128x128 [1, 0] (broadcastTo S128x128 (shapeCast S1x128 (shapeCast S1x128 (View.ld x1 (Rect.unit ![4, 0] ![1, 128] inb_S8x128_S1x128_4_0)) shapeCasts_S1x128_S1x128) shapeCasts_S1x128_S1x128) broadcasts_S1x128_S128x128) transposes_S128x128_p1_0_S128x128)⟩,
        ⟨Rect.unit ![384, 0] ![128, 128] inb_S1024x128_S128x128_384_0, shapeCast S128x128 (transpose S128x128 [1, 0] (broadcastTo S128x128 (shapeCast S1x128 (shapeCast S1x128 (View.ld x1 (Rect.unit ![3, 0] ![1, 128] inb_S8x128_S1x128_3_0)) shapeCasts_S1x128_S1x128) shapeCasts_S1x128_S1x128) broadcasts_S1x128_S128x128) transposes_S128x128_p1_0_S128x128) shapeCasts_S128x128_S128x128⟩,
        ⟨Rect.unit ![256, 0] ![128, 128] inb_S1024x128_S128x128_256_0, shapeCast S128x128 (transpose S128x128 [1, 0] (broadcastTo S128x128 (shapeCast S1x128 (shapeCast S1x128 (View.ld x1 (Rect.unit ![2, 0] ![1, 128] inb_S8x128_S1x128_2_0)) shapeCasts_S1x128_S1x128) shapeCasts_S1x128_S1x128) broadcasts_S1x128_S128x128) transposes_S128x128_p1_0_S128x128) shapeCasts_S128x128_S128x128⟩,
        ⟨Rect.unit ![128, 0] ![128, 128] inb_S1024x128_S128x128_128_0, shapeCast S128x128 (transpose S128x128 [1, 0] (broadcastTo S128x128 (shapeCast S1x128 (shapeCast S1x128 (View.ld x1 (Rect.unit ![1, 0] ![1, 128] inb_S8x128_S1x128_1_0)) shapeCasts_S1x128_S1x128) shapeCasts_S1x128_S1x128) broadcasts_S1x128_S128x128) transposes_S128x128_p1_0_S128x128) shapeCasts_S128x128_S128x128⟩,
        ⟨Rect.unit ![0, 0] ![128, 128] inb_S1024x128_S128x128_0_0, shapeCast S128x128 (transpose S128x128 [1, 0] (broadcastTo S128x128 (shapeCast S1x128 (shapeCast S1x128 (View.ld x1 (Rect.unit ![0, 0] ![1, 128] inb_S8x128_S1x128_0_0)) shapeCasts_S1x128_S1x128) shapeCasts_S1x128_S1x128) broadcasts_S1x128_S128x128) transposes_S128x128_p1_0_S128x128) shapeCasts_S128x128_S128x128⟩] (Rect.unit ![0, 0] ![1024, 128] inb_S1024x128_S1024x128_0_0).toLoadRect = spread x1 := by
  rw [View.readCov_eq_canon', scratch_tiles]
  funext j
  refine congrArg (spread x1) (funext fun a => Fin.ext ?_)
  match a with
  | ⟨0, _⟩ => exact (Rect.idx_unit_val ..).trans (Nat.zero_add _)
  | ⟨1, _⟩ => exact (Rect.idx_unit_val ..).trans (Nat.zero_add _)

/-- The SwiGLU values of block row `r` and the block's group `e`: gate columns from `256 e`, up columns from `256 e + 128`. -/
def wH (x0 : Vec Ideal S1024x6912 .fp8e4m3) (w : Vec Ideal S6912x512 .fp8e4m3) (s : Vec Ideal S1x512 .f32) (ρ : EReal)
    (e : ℕ) (he : e < 2) (r : Fin 1024) : Fin 128 → EReal :=
  gH (fun k => x0 (ix2 r k)) ρ (fun l k => w (ix2 k ⟨256 * e + l.val, by omega⟩)) (fun l k => w (ix2 k ⟨256 * e + 128 + l.val, by omega⟩))
    (fun l => s (ix2 0 ⟨256 * e + l.val, by omega⟩)) (fun l => s (ix2 0 ⟨256 * e + 128 + l.val, by omega⟩))

/-- The group's number may be rewritten. -/
theorem wH_congr (x0 : Vec Ideal S1024x6912 .fp8e4m3) (w : Vec Ideal S6912x512 .fp8e4m3) (s : Vec Ideal S1x512 .f32) (ρ : EReal)
    (e e' : ℕ) (he : e < 2) (he' : e' < 2) (h : e = e') : wH x0 w s ρ e he = wH x0 w s ρ e' he' := by
  subst h; rfl

/-- A slice of the row of column scales, read at a column. -/
theorem ld_col (s : Vec Ideal S1x512 .f32) (o : ℕ) (inb : ∀ a, (![0, o] : Fin 2 → ℕ) a + (![1, 128] : Fin 2 → ℕ) a ≤ S1x512.size a)
    (l : Fin 128) (h : o + l.val < 512) :
    View.ld (Val := Elt Ideal) (e' := .f32) s (Rect.unit (s := S1x512) ![0, o] ![1, 128] inb) (ix2 0 l) = s (ix2 0 ⟨o + l.val, h⟩) := by
  refine congrArg s (funext fun a => Fin.ext ?_)
  match a with
  | ⟨0, _⟩ => exact (Rect.idx_unit_val ..).trans (Nat.zero_add _)
  | ⟨1, _⟩ => exact Rect.idx_unit_val ..

/-- The block's group 0. -/
theorem bH_0 (x0 : Vec Ideal S1024x6912 .fp8e4m3) (w : Vec Ideal S6912x512 .fp8e4m3) (x3 : Vec Ideal S1x512 .f32) (ρ : EReal) (r : Fin 1024) :
    bH x0 w ρ (View.ld x3 (Rect.unit ![0, 0] ![1, 128] inb_S1x512_S1x128_0_0))
      (View.ld x3 (Rect.unit ![0, 128] ![1, 128] inb_S1x512_S1x128_0_128)) 0 128 (by omega) (by omega) r = wH x0 w x3 ρ 0 (by omega) r := by
  funext l
  unfold bH wH
  congr 1 <;> funext l
  · exact ld_col x3 0 _ l (by omega)
  · exact ld_col x3 128 _ l (by omega)

/-- The block's group 1. -/
theorem bH_1 (x0 : Vec Ideal S1024x6912 .fp8e4m3) (w : Vec Ideal S6912x512 .fp8e4m3) (x3 : Vec Ideal S1x512 .f32) (ρ : EReal) (r : Fin 1024) :
    bH x0 w ρ (View.ld x3 (Rect.unit ![0, 256] ![1, 128] inb_S1x512_S1x128_0_256))
      (View.ld x3 (Rect.unit ![0, 384] ![1, 128] inb_S1x512_S1x128_0_384)) 256 384 (by omega) (by omega) r = wH x0 w x3 ρ 1 (by omega) r := by
  funext l
  unfold bH wH
  congr 1 <;> funext l
  · exact ld_col x3 256 _ l (by omega)
  · exact ld_col x3 384 _ l (by omega)

/-- The two stores of codes, read at a column: the column's group's codes. -/
theorem canon_codes (x0 : Vec Ideal S1024x6912 .fp8e4m3) (x2 : Vec Ideal S6912x512 .fp8e4m3) (x3 : Vec Ideal S1x512 .f32)
    (xs : Vec Ideal S1024x128 .f32) (r : Fin 1024) (ρ : EReal) (hx : ∀ l, xs (ix2 r l) = ρ) (n : Fin 256) :
    View.canon (s := S1024x256) (e := .fp8e4m3) (Val := Elt Ideal)
      [⟨Rect.unit ![0, 128] ![1024, 128] inb_S1024x256_S1024x128_0_128,
        k0_pay1 (F := Ideal) (k0_pay25 (k0_pay13 x0 x2) xs (View.ld x3 (Rect.unit ![0, 256] ![1, 128] inb_S1x512_S1x128_0_256)) (View.ld x3 (Rect.unit ![0, 384] ![1, 128] inb_S1x512_S1x128_0_384)))
          (k0_pay29 (k0_pay26 (k0_pay13 x0 x2) xs (View.ld x3 (Rect.unit ![0, 256] ![1, 128] inb_S1x512_S1x128_0_256)) (View.ld x3 (Rect.unit ![0, 384] ![1, 128] inb_S1x512_S1x128_0_384)))
            (k0_pay27 (k0_pay13 x0 x2) xs (View.ld x3 (Rect.unit ![0, 256] ![1, 128] inb_S1x512_S1x128_0_256)) (View.ld x3 (Rect.unit ![0, 384] ![1, 128] inb_S1x512_S1x128_0_384)))
            (k0_pay28 (k0_pay13 x0 x2) xs (View.ld x3 (Rect.unit ![0, 256] ![1, 128] inb_S1x512_S1x128_0_256)) (View.ld x3 (Rect.unit ![0, 384] ![1, 128] inb_S1x512_S1x128_0_384))) 23#32)
          (k0_pay30 (k0_pay26 (k0_pay13 x0 x2) xs (View.ld x3 (Rect.unit ![0, 256] ![1, 128] inb_S1x512_S1x128_0_256)) (View.ld x3 (Rect.unit ![0, 384] ![1, 128] inb_S1x512_S1x128_0_384)))
            (k0_pay27 (k0_pay13 x0 x2) xs (View.ld x3 (Rect.unit ![0, 256] ![1, 128] inb_S1x512_S1x128_0_256)) (View.ld x3 (Rect.unit ![0, 384] ![1, 128] inb_S1x512_S1x128_0_384)))
            (k0_pay28 (k0_pay13 x0 x2) xs (View.ld x3 (Rect.unit ![0, 256] ![1, 128] inb_S1x512_S1x128_0_256)) (View.ld x3 (Rect.unit ![0, 384] ![1, 128] inb_S1x512_S1x128_0_384))) 23#32)⟩,
       ⟨Rect.unit ![0, 0] ![1024, 128] inb_S1024x256_S1024x128_0_0,
        k0_pay23 (F := Ideal) (k0_pay14 x0 x2 xs (View.ld x3 (Rect.unit ![0, 0] ![1, 128] inb_S1x512_S1x128_0_0)) (View.ld x3 (Rect.unit ![0, 128] ![1, 128] inb_S1x512_S1x128_0_128)))
          (k0_pay15 x0 x2 xs (View.ld x3 (Rect.unit ![0, 0] ![1, 128] inb_S1x512_S1x128_0_0)) (View.ld x3 (Rect.unit ![0, 128] ![1, 128] inb_S1x512_S1x128_0_128)))
          (k0_pay18 (k0_pay15 x0 x2 xs (View.ld x3 (Rect.unit ![0, 0] ![1, 128] inb_S1x512_S1x128_0_0)) (View.ld x3 (Rect.unit ![0, 128] ![1, 128] inb_S1x512_S1x128_0_128)))
            (k0_pay16 x0 x2 xs (View.ld x3 (Rect.unit ![0, 0] ![1, 128] inb_S1x512_S1x128_0_0)) (View.ld x3 (Rect.unit ![0, 128] ![1, 128] inb_S1x512_S1x128_0_128))) k0_pay17)
          (k0_pay19 (k0_pay15 x0 x2 xs (View.ld x3 (Rect.unit ![0, 0] ![1, 128] inb_S1x512_S1x128_0_0)) (View.ld x3 (Rect.unit ![0, 128] ![1, 128] inb_S1x512_S1x128_0_128)))
            (k0_pay16 x0 x2 xs (View.ld x3 (Rect.unit ![0, 0] ![1, 128] inb_S1x512_S1x128_0_0)) (View.ld x3 (Rect.unit ![0, 128] ![1, 128] inb_S1x512_S1x128_0_128))) k0_pay17)
          (k0_pay20 (k0_pay15 x0 x2 xs (View.ld x3 (Rect.unit ![0, 0] ![1, 128] inb_S1x512_S1x128_0_0)) (View.ld x3 (Rect.unit ![0, 128] ![1, 128] inb_S1x512_S1x128_0_128)))
            (k0_pay16 x0 x2 xs (View.ld x3 (Rect.unit ![0, 0] ![1, 128] inb_S1x512_S1x128_0_0)) (View.ld x3 (Rect.unit ![0, 128] ![1, 128] inb_S1x512_S1x128_0_128))) k0_pay17)⟩] (ix2 r n) =
      gQ (wH x0 x2 x3 ρ (n.val / 128) (by omega) r) ⟨n.val % 128, by omega⟩ := by
  canon_tiles x h
  · idx_vars x
    obtain rfl := Fin.ext h0
    refine (codes1 _ _ _ _ _ r ρ hx x1).trans ?_
    rw [bH_1, wH_congr _ _ _ _ (n.val / 128) 1 _ _ (by omega)]
    exact congrArg _ (Fin.ext (by simp only; omega))
  · idx_vars x
    obtain rfl := Fin.ext h0
    refine (codes0 _ _ _ _ _ r ρ hx x1).trans ?_
    rw [bH_0, wH_congr _ _ _ _ (n.val / 128) 0 _ _ (by omega)]
    exact congrArg _ (Fin.ext (by simp only; omega))

variable (c : Dev nD) (i : grid0.Coords) (a2 : Memref sig .tc .vmem S1024x6912 .fp8e4m3) (h2 : a2.IsWhole)
    (a3 : Memref sig .tc .vmem S8x128 .f32) (h3 : a3.IsWhole) (a4 : Memref sig .tc .vmem S6912x512 .fp8e4m3) (h4 : a4.IsWhole)
    (a5 : Memref sig .tc .vmem S1x512 .f32) (h5 : a5.IsWhole) (a6 : Memref sig .tc .vmem S1024x256 .fp8e4m3) (h6 : a6.IsWhole)
    (a7 : Memref sig .tc .vmem S1024x20 .f32) (h7 : a7.IsWhole) (a8 : Memref sig .tc .vmem S1024x128 .f32) (h8 : a8.IsWhole)

/-- The scratch after a row block's first step. -/
theorem sout_A (hc : cond0_0 i) (x0 : Vec Ideal S1024x6912 .fp8e4m3) (x1 : Vec Ideal S8x128 .f32) (x2 : Vec Ideal S6912x512 .fp8e4m3) (x3 : Vec Ideal S1x512 .f32) :
    sout0_A_0 c i a2 h2 a3 h3 a4 h4 a5 h5 a6 h6 a7 h7 a8 h8 hc x0 x1 x2 x3 = spread x1 := by
  frame_out
  exact scratch_tiles x1

/-- The scales after a row block's first step. -/
theorem out_A_5 (hc : cond0_0 i) (x0 : Vec Ideal S1024x6912 .fp8e4m3) (x1 : Vec Ideal S8x128 .f32) (x2 : Vec Ideal S6912x512 .fp8e4m3) (x3 : Vec Ideal S1x512 .f32)
    (r : Fin 1024) (g : Fin 20) :
    out0_A_5 c i a2 h2 a3 h3 a4 h4 a5 h5 a6 h6 a7 h7 a8 h8 hc x0 x1 x2 x3 (ix2 r g) =
      if g.val = 2 * (i 1).val + 1 then gS (wH x0 x2 x3 (spread x1 (ix2 r 0)) 1 (by omega) r)
      else if g.val = 2 * (i 1).val + 0 then gS (wH x0 x2 x3 (spread x1 (ix2 r 0)) 0 (by omega) r)
      else k0_pay12 (F := Ideal) (ix2 r g) := by
  rw [← bH_0, ← bH_1]
  refine (congrFun (f := out0_A_5 c i a2 h2 a3 h3 a4 h4 a5 h5 a6 h6 a7 h7 a8 h8 hc x0 x1 x2 x3) (g := ?_) ?_ (ix2 r g)).trans ?_
  rotate_left
  · frame_out
    rw [scratch_read]
  · exact scales x0 x2 (spread x1) _ _ _ _ _ _ (i 1).isLt r _ (fun l => rfl) g

/-- The scales after a later step: the earlier groups' lanes are kept. -/
theorem out_B_5 (hc : ¬cond0_0 i) (x0 : Vec Ideal S1024x6912 .fp8e4m3) (x1 : Vec Ideal S8x128 .f32) (x2 : Vec Ideal S6912x512 .fp8e4m3) (x3 : Vec Ideal S1x512 .f32)
    (xo : Vec Ideal S1024x20 .f32) (xs : Vec Ideal S1024x128 .f32) (r : Fin 1024) (ρ : EReal) (hx : ∀ l, xs (ix2 r l) = ρ) (g : Fin 20) :
    out0_B_5 c i a2 h2 a3 h3 a4 h4 a5 h5 a6 h6 a7 h7 a8 h8 hc x0 x1 x2 x3 xo xs (ix2 r g) =
      if g.val = 2 * (i 1).val + 1 then gS (wH x0 x2 x3 ρ 1 (by omega) r)
      else if g.val = 2 * (i 1).val + 0 then gS (wH x0 x2 x3 ρ 0 (by omega) r)
      else xo (ix2 r g) := by
  rw [← bH_0, ← bH_1]
  refine (congrFun (f := out0_B_5 c i a2 h2 a3 h3 a4 h4 a5 h5 a6 h6 a7 h7 a8 h8 hc x0 x1 x2 x3 xo xs) (g := ?_) ?_ (ix2 r g)).trans ?_
  rotate_left
  · frame_out
    exact rfl
  · exact scales x0 x2 xs _ _ _ _ _ _ (i 1).isLt r ρ hx g

/-- The codes after a row block's first step. -/
theorem out_A_4 (hc : cond0_0 i) (x0 : Vec Ideal S1024x6912 .fp8e4m3) (x1 : Vec Ideal S8x128 .f32) (x2 : Vec Ideal S6912x512 .fp8e4m3) (x3 : Vec Ideal S1x512 .f32)
    (r : Fin 1024) (n : Fin 256) :
    out0_A_4 c i a2 h2 a3 h3 a4 h4 a5 h5 a6 h6 a7 h7 a8 h8 hc x0 x1 x2 x3 (ix2 r n) =
      gQ (wH x0 x2 x3 (spread x1 (ix2 r 0)) (n.val / 128) (by omega) r) ⟨n.val % 128, by omega⟩ := by
  refine (congrFun (f := out0_A_4 c i a2 h2 a3 h3 a4 h4 a5 h5 a6 h6 a7 h7 a8 h8 hc x0 x1 x2 x3) (g := ?_) ?_ (ix2 r n)).trans ?_
  rotate_left
  · frame_out
    rw [scratch_read]
  · exact canon_codes x0 x2 x3 (spread x1) r _ (fun l => rfl) n

/-- The codes after a later step. -/
theorem out_B_4 (hc : ¬cond0_0 i) (x0 : Vec Ideal S1024x6912 .fp8e4m3) (x1 : Vec Ideal S8x128 .f32) (x2 : Vec Ideal S6912x512 .fp8e4m3) (x3 : Vec Ideal S1x512 .f32)
    (xo : Vec Ideal S1024x20 .f32) (xs : Vec Ideal S1024x128 .f32) (r : Fin 1024) (ρ : EReal) (hx : ∀ l, xs (ix2 r l) = ρ) (n : Fin 256) :
    out0_B_4 c i a2 h2 a3 h3 a4 h4 a5 h5 a6 h6 a7 h7 a8 h8 hc x0 x1 x2 x3 xo xs (ix2 r n) =
      gQ (wH x0 x2 x3 ρ (n.val / 128) (by omega) r) ⟨n.val % 128, by omega⟩ := by
  refine (congrFun (f := out0_B_4 c i a2 h2 a3 h3 a4 h4 a5 h5 a6 h6 a7 h7 a8 h8 hc x0 x1 x2 x3 xo xs) (g := ?_) ?_ (ix2 r n)).trans ?_
  rotate_left
  · frame_out
    exact rfl
  · exact canon_codes x0 x2 x3 xs r ρ hx n

end Cert.KernelIdeal.Hand

end
-- ==== Proof.Reads.lean ====
/-
  WHAT A GRID STEP'S INPUT BLOCKS HOLD, in terms of the program's arguments.
-/
module

public import proofs.«01_k».proof.Proof.Gen.KernelIdeal.Value
public import proofs.«01_k».proof.Proof.Spec
public import Idealize.ShloMosaic.Lib.Claim
public import Idealize.ShloMosaic.Lib.Tactic
public import Idealize.ShloMosaic.Lib.Pointwise
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal Cert.KernelIdeal.Gen Cert.Spec

variable (m : (ℓ : Loc nD τ sig) → Buf (Elt Ideal) ℓ) (c : Dev nD)

/-- The activations' codes, by row and column. -/
def aX (R : Fin 32768) (k : Fin 6912) : EReal :=
  m ((c : Thread nD τ).loc main_arg0) (ix3 (⟨R.val / 8192, by omega⟩ : Fin 4) (⟨R.val % 8192, by omega⟩ : Fin 8192) k)
/-- The activations' scales, by row. -/
def aXS (R : Fin 32768) : EReal :=
  m ((c : Thread nD τ).loc main_arg1) (ix3 (⟨R.val / 8192, by omega⟩ : Fin 4) (⟨R.val % 8192, by omega⟩ : Fin 8192) (0 : Fin 1))
/-- The weights' codes. -/
def aW (k : Fin 6912) (n : Fin 5120) : EReal := m ((c : Thread nD τ).loc main_arg2) (ix2 k n)
/-- The weights' scales, by column. -/
def aWS (n : Fin 5120) : EReal := m ((c : Thread nD τ).loc main_arg3) (ix1 n)

/-- The windows' block indices at a point: the row block is the point over 10, the column block its remainder. -/
theorem idx : ∀ t : Fin cfg0.N, win0_0.index t = ![t.val / 10, 0] ∧ win0_1.index t = ![t.val / 10, 0]
    ∧ win0_2.index t = ![0, t.val % 10] ∧ win0_3.index t = ![0, t.val % 10] :=
  (by decide +kernel : ∀ t : Fin grid0.N, _)

theorem row_lt (t : Fin cfg0.N) (r : Fin 1024) : 1024 * (t.val / 10) + r.val < 32768 := by
  have := lt_of_lt_of_eq t.isLt N_0; omega

theorem iblk_x (t : Fin cfg0.N) (r : Fin 1024) (k : Fin 6912) :
    iblk m c 0 t (ix2 r k) = aX m c ⟨1024 * (t.val / 10) + r.val, row_lt t r⟩ k := by
  unfold aX
  blk_ext! [iblk, V, idx t]

theorem iblk_xs (t : Fin cfg0.N) (r : Fin 1024) :
    iblk m c 1 t (ix2 (⟨r.val / 128, by omega⟩ : Fin 8) (⟨r.val % 128, by omega⟩ : Fin 128)) = aXS m c ⟨1024 * (t.val / 10) + r.val, row_lt t r⟩ := by
  unfold aXS
  blk_ext! [iblk, V, idx t]

theorem iblk_w (t : Fin cfg0.N) (k : Fin 6912) (n : Fin 512) :
    iblk m c 2 t (ix2 k n) = aW m c k ⟨512 * (t.val % 10) + n.val, by omega⟩ := by
  unfold aW
  blk_ext! [iblk, V, idx t]

theorem iblk_ws (t : Fin cfg0.N) (n : Fin 512) :
    iblk m c 3 t (ix2 (0 : Fin 1) n) = aWS m c ⟨512 * (t.val % 10) + n.val, by omega⟩ := by
  unfold aWS
  blk_ext! [iblk, V, idx t]

end Cert.KernelIdeal.Hand

end
-- ==== Proof.Fold.lean ====
/-
  WHAT THE GRID'S STEPS LEAVE, by induction over the steps, and the kernel's two result arrays.
-/
module

public import proofs.«01_k».proof.Proof.Outs
public import proofs.«01_k».proof.Proof.Reads

@[expose] public section

set_option maxRecDepth 16384

noncomputable section

open Idealize.ShloMosaic Idealize.ShloMosaic.TcCoe Idealize.SL.Sem

namespace Cert.KernelIdeal.Hand

open Cert.KernelIdeal Cert.KernelIdeal.Gen Cert.Spec

variable (m : (ℓ : Loc nD τ sig) → Buf (Elt Ideal) ℓ) (c : Dev nD)

/-- The SwiGLU values of a row and a group, from the program's arguments. -/
def aH (R : Fin 32768) (G : Fin 20) : Fin 128 → EReal := rowH (aX m c) (aXS m c) (aW m c) (aWS m c) R G

/-- The row of the whole problem a block row is. -/
abbrev rowOf (t : Fin cfg0.N) (r : Fin 1024) : Fin 32768 := ⟨1024 * (t.val / 10) + r.val, row_lt t r⟩

/-- A block's group is a group of the whole problem. -/
theorem wH_eq (t : Fin cfg0.N) (r : Fin 1024) (e : ℕ) (he : e < 2) :
    wH (iblk m c 0 t) (iblk m c 2 t) (iblk m c 3 t) (aXS m c (rowOf t r)) e he r =
      aH m c (rowOf t r) ⟨2 * (t.val % 10) + e, by omega⟩ := by
  unfold wH aH rowH
  congr 1
  · funext k; exact iblk_x m c t r k
  · funext l k
    refine (iblk_w m c t k ⟨256 * e + l.val, by omega⟩).trans (congrArg (aW m c k) (Fin.ext ?_))
    simp only; omega
  · funext l k
    refine (iblk_w m c t k ⟨256 * e + 128 + l.val, by omega⟩).trans (congrArg (aW m c k) (Fin.ext ?_))
    simp only; omega
  · funext l
    refine (iblk_ws m c t ⟨256 * e + l.val, by omega⟩).trans (congrArg (aWS m c) (Fin.ext ?_))
    simp only; omega
  · funext l
    refine (iblk_ws m c t ⟨256 * e + 128 + l.val, by omega⟩).trans (congrArg (aWS m c) (Fin.ext ?_))
    simp only; omega

/-- The scratch of a row block's first step holds the rows' scales. -/
theorem spread_eq (t : Fin cfg0.N) (r : Fin 1024) (l : Fin 128) : spread (iblk m c 1 t) (ix2 r l) = aXS m c (rowOf t r) :=
  iblk_xs m c t r

/-- A step's column block. -/
theorem col_eq (t : Fin cfg0.N) : (grid0.coords t 1).val = t.val % 10 := by
  exact (Pipeline.Grid.coords_val (S := 1) t 1 (by decide) rfl).trans (congrArg (· % 10) (Nat.div_one _))

/-- What the buffers hold after step `n`: the scratch the rows' scales; the scales of the groups up to the step's last;
    the step's codes. -/
structure Holds (t : Fin cfg0.N) (o : Vec Ideal S1024x256 .fp8e4m3 × Vec Ideal S1024x20 .f32 × Vec Ideal S1024x128 .f32) : Prop where
  rows : ∀ r l, o.2.2 (ix2 r l) = aXS m c (rowOf t r)
  scales : ∀ r (g : Fin 20), g.val < 2 * (t.val % 10) + 2 → o.2.1 (ix2 r g) = gS (aH m c (rowOf t r) g)
  codes : ∀ r (q : Fin 256), o.1 (ix2 r q) = gQ (aH m c (rowOf t r) ⟨2 * (t.val % 10) + q.val / 128, by omega⟩) ⟨q.val % 128, by omega⟩

/-- The two lanes a step sets, and the others as before, are the scales up to the step's last group. -/
theorem lanes (t : Fin cfg0.N) (r : Fin 1024) (g : Fin 20) (hg : g.val < 2 * (t.val % 10) + 2) (old : EReal)
    (hold : g.val < 2 * (t.val % 10) → old = gS (aH m c (rowOf t r) g)) :
    (if g.val = 2 * (t.val % 10) + 1 then gS (aH m c (rowOf t r) ⟨2 * (t.val % 10) + 1, by omega⟩)
      else if g.val = 2 * (t.val % 10) + 0 then gS (aH m c (rowOf t r) ⟨2 * (t.val % 10) + 0, by omega⟩)
      else old) = gS (aH m c (rowOf t r) g) := by
  split_ifs with h1 h2
  · exact congrArg (fun x => gS (aH m c (rowOf t r) x)) (Fin.ext h1.symm)
  · exact congrArg (fun x => gS (aH m c (rowOf t r) x)) (Fin.ext h2.symm)
  · exact hold (by omega)

theorem holds_A (t : Fin cfg0.N) (h0 : t.val % 10 = 0) : Holds m c t (outsAt0 m c t.val t.isLt) := by
  rw [outsAt0_A m c t h0]
  refine ⟨fun r l => ?_, fun r g hg => ?_, fun r q => ?_⟩
  · dsimp only
    rw [sout_A]
    exact spread_eq m c t r l
  · dsimp only
    rw [out_A_5, spread_eq, wH_eq, wH_eq, col_eq]
    exact lanes m c t r g hg _ (by omega)
  · dsimp only
    rw [out_A_4, spread_eq, wH_eq]

theorem holds_B (t : Fin cfg0.N) (h0 : ¬t.val % 10 = 0) (t' : Fin cfg0.N) (ht : t'.val = t.val - 1)
    (ih : Holds m c t' (outsAt0 m c t'.val t'.isLt)) : Holds m c t (outsAt0 m c t.val t.isLt) := by
  have hrow : ∀ r, rowOf t' r = rowOf t r := fun r => Fin.ext (by simp only [rowOf]; omega)
  obtain ⟨n', hn'⟩ := t'
  simp only at ht
  subst ht
  rw [outsAt0_B m c t h0]
  refine ⟨fun r l => ?_, fun r g hg => ?_, fun r q => ?_⟩
  · exact (ih.rows r l).trans (congrArg _ (hrow r))
  · dsimp only
    rw [out_B_5 (hx := (fun l => (ih.rows r l).trans (congrArg _ (hrow r)))), wH_eq, wH_eq, col_eq]
    refine lanes m c t r g hg _ fun h => (ih.scales r g (by simp only; omega)).trans ?_
    rw [hrow]
  · dsimp only
    rw [out_B_4 (hx := (fun l => (ih.rows r l).trans (congrArg _ (hrow r)))), wH_eq]

/-- Every step leaves what `Holds` says. -/
theorem holds (t : Fin cfg0.N) : Holds m c t (outsAt0 m c t.val t.isLt) := by
  obtain ⟨n, hn⟩ := t
  induction n with
  | zero => exact holds_A m c ⟨0, hn⟩ rfl
  | succ n ih =>
    by_cases h0 : (n + 1) % 10 = 0
    · exact holds_A m c ⟨n + 1, hn⟩ h0
    · exact holds_B m c ⟨n + 1, hn⟩ h0 ⟨n, by omega⟩ rfl (ih _)

/-- The kernel's codes. -/
theorem G4_eq (i : S32768x2560.Idx) :
    Value.G4 m c i = gQ (aH m c (i 0) ⟨(i 1).val / 128, by have := (i 1).isLt; change (i 1).val < 2560 at this; omega⟩)
      ⟨(i 1).val % 128, by omega⟩ := by
  have h0 : (i 0).val < 32768 := (i 0).isLt
  have h1 : (i 1).val < 2560 := (i 1).isLt
  have hp : Value.pt4Of i < cfg0.N := lt_of_lt_of_eq (b := 320) (by simp only [Value.pt4Of, Value.run4Of]; omega) N_0.symm
  have hh := (holds m c ⟨Value.pt4Of i, hp⟩).codes ⟨(i 0).val % 1024, by omega⟩ ⟨(i 1).val % 256, by omega⟩
  unfold Value.G4
  rw [dif_pos hp, ← Value.outsAt0_sweep m c _ hp]
  refine Eq.trans (congrArg _ ?_) (hh.trans ?_)
  · funext a
    match a with
    | ⟨0, _⟩ => rfl
    | ⟨1, _⟩ => rfl
  · refine congrArg₂ gQ (congrArg₂ (aH m c) (Fin.ext ?_) (Fin.ext ?_)) (Fin.ext ?_) <;> simp only [rowOf, Value.pt4Of, Value.run4Of] <;> omega

/-- The kernel's scales. -/
theorem G5_eq (i : S32768x20.Idx) : Value.G5 m c i = gS (aH m c (i 0) (i 1)) := by
  have h0 : (i 0).val < 32768 := (i 0).isLt
  have h1 : (i 1).val < 20 := (i 1).isLt
  have hp : Value.pt5Of i < cfg0.N := lt_of_lt_of_eq (b := 320) (by simp only [Value.pt5Of, Value.run5Of]; omega) N_0.symm
  have hh := (holds m c ⟨Value.pt5Of i, hp⟩).scales ⟨(i 0).val % 1024, by omega⟩ ⟨(i 1).val, h1⟩ (by simp only [Value.pt5Of, Value.run5Of]; omega)
  unfold Value.G5
  rw [dif_pos hp, ← Value.outsAt0_sweep m c _ hp]
  refine Eq.trans (congrArg _ ?_) (hh.trans ?_)
  · funext a
    match a with
    | ⟨0, _⟩ => rfl
    | ⟨1, _⟩ => exact Fin.ext (Nat.mod_eq_of_lt h1)
  · exact congrArg gS (congrArg₂ (aH m c) (Fin.ext (by simp only [Value.pt5Of, Value.run5Of]; omega)) rfl)

end Cert.KernelIdeal.Hand

end
-- ==== Proof.RefBlock.lean ====
/-
  WHAT THE REFERENCE'S PAYLOADS COMPUTE, read at one element, in the words of Spec.lean.
-/
module

public import proofs.«01_k».proof.Proof.Spec
public import proofs.«01_k».proof.Proof.Gen.ReferenceIdeal.Skeleton
public import Idealize.ShloMosaic.Lib.Pointwise

@[expose] public section

set_option maxRecDepth 16384

noncomputable section

open Idealize.ShloMosaic

namespace Cert.ReferenceIdeal.Hand

open Cert.ReferenceIdeal Cert.ReferenceIdeal.Gen Cert.Spec Cert.Scale

variable (x : Vec Ideal S32768x6912 .fp8e4m3) (w : Vec Ideal S6912x5120 .fp8e4m3) (xs : Vec Ideal S32768x1 .f32)
  (ws : Vec Ideal S1x5120 .f32)

/-- The SwiGLU values of a row and a group, from the four operands. -/
def pH (R : Fin 32768) (G : Fin 20) : Fin 128 → EReal :=
  rowH (fun R k => x (ix2 R k)) (fun R => xs (ix2 R 0)) (fun k n => w (ix2 k n)) (fun n => ws (ix2 0 n)) R G

/-- The reference's SwiGLU values are the spec's. -/
theorem pay3_apply (R : Fin 32768) (G : Fin 20) (l : Fin 128) : k0_pay3 x w xs ws (ix3 R G l) = pH x w xs ws R G l := by
  have hg : 256 * G.val + l.val = G.val * 256 + l.val := by omega
  have hu : 256 * G.val + 128 + l.val = G.val * 256 + 128 + l.val := by omega
  unfold pH rowH gH hval dot
  simp only [hg, hu]
  pointwise [k0_pay3]

/-- The reference's codes at a column, from its values and scales. -/
theorem pay1_apply (h : FVec Ideal S32768x20x128 .f32) (s : FVec Ideal S32768x20x1 .f32) (R : Fin 32768) (n : Fin 2560) :
    k0_pay1 h s (ix2 R n) = min hi448 (max lo448 (Ideal.div (h (ix3 R ⟨n.val / 128, by omega⟩ ⟨n.val % 128, by omega⟩))
      (s (ix3 R ⟨n.val / 128, by omega⟩ (0 : Fin 1))))) := by
  unfold hi448 lo448
  pointwise [k0_pay1]

/-- The reference's stored scales are its scales. -/
theorem pay2_apply (s : FVec Ideal S32768x20x1 .f32) (R : Fin 32768) (G : Fin 20) :
    k0_pay2 s (ix2 R G) = s (ix3 R G (0 : Fin 1)) := by
  pointwise [k0_pay2]

end Cert.ReferenceIdeal.Hand

end
-- ==== Proof.RefScale.lean ====
/-
  WHAT THE REFERENCE'S PAYLOADS COMPUTE, read at one element, in the words of Spec.lean.
-/
module

public import proofs.«01_k».proof.Proof.Spec
public import proofs.«01_k».proof.Proof.Gen.ReferenceIdeal.Skeleton
public import Idealize.ShloMosaic.Lib.Pointwise

@[expose] public section

set_option maxRecDepth 16384

noncomputable section

open Idealize.ShloMosaic

namespace Cert.ReferenceIdeal.Hand

open Cert.ReferenceIdeal Cert.ReferenceIdeal.Gen Cert.Spec Cert.Scale

/-- The largest entries of each group. -/
def maxVec (a : FVec Ideal S32768x20x128 .f32) : FVec Ideal S32768x20x1 .f32 :=
  shapeCast S32768x20x1 (multiReduction .maximumf [2] S32768x20 a 0xFF800000#32 reduces_S32768x20x128_S32768x20 (.inl rfl) rfl)
    shapeCasts_S32768x20_S32768x20x1

/-- The largest absolute values over 448, as the reference computes them from the SwiGLU values. -/
def vVec (h : FVec Ideal S32768x20x128 .f32) : FVec Ideal S32768x20x1 .f32 :=
  mulf (maxVec (absf h)) (broadcast S32768x20x1 (Scalar.ofBits .f32 0x3B124925#32))

/-- The powers of two the reference chooses from. -/
def powVec : FVec Ideal S32768x20x252 .f32 :=
  exp2 (sitofp .f32 (subi (iota .tc S32768x20x252 32 [2] iota_S32768x20x252_d2_w32) (broadcast S32768x20x252 125#32)))

/-- Each power where it is above the value, the largest power elsewhere. -/
def aboveVec (v : FVec Ideal S32768x20x1 .f32) (p : FVec Ideal S32768x20x252 .f32) : FVec Ideal S32768x20x252 .f32 :=
  select (cmpf .olt (broadcastTo S32768x20x252 v broadcasts_S32768x20x1_S32768x20x252) p) p
    (broadcast S32768x20x252 (Scalar.ofBits .f32 0x7E800000#32))

/-- The least of them. -/
def leastVec (a : FVec Ideal S32768x20x252 .f32) : FVec Ideal S32768x20x1 .f32 :=
  shapeCast S32768x20x1 (multiReduction .minimumf [2] S32768x20 a 0x7F800000#32 reduces_S32768x20x252_S32768x20 (.inl rfl) rfl)
    shapeCasts_S32768x20_S32768x20x1

/-- The scale: one where the value is below the smallest normal or infinite, else the least power. -/
def pickVec (v s : FVec Ideal S32768x20x1 .f32) : FVec Ideal S32768x20x1 .f32 :=
  select (ori (cmpf .olt v (broadcast S32768x20x1 (Scalar.ofBits .f32 0x00800000#32)))
    (cmpf .oeq v (broadcast S32768x20x1 (Scalar.ofBits .f32 0x7F800000#32)))) (broadcast S32768x20x1 (Scalar.ofBits .f32 0x3F800000#32)) s

/-- The reference's scales are these steps in order. -/
theorem pay4_split (x : Vec Ideal S32768x6912 .fp8e4m3) (w : Vec Ideal S6912x5120 .fp8e4m3) (xs : Vec Ideal S32768x1 .f32)
    (ws : Vec Ideal S1x5120 .f32) :
    k0_pay4 x w xs ws = pickVec (vVec (k0_pay3 x w xs ws)) (leastVec (aboveVec (vVec (k0_pay3 x w xs ws)) powVec)) := by
  rfl

theorem cast_apply (a : FVec Ideal S32768x20 .f32) (R : Fin 32768) (G : Fin 20) :
    shapeCast S32768x20x1 a shapeCasts_S32768x20_S32768x20x1 (ix3 R G (0 : Fin 1)) = a (ix2 R G) := by
  pointwise []

theorem max_apply (a : FVec Ideal S32768x20x128 .f32) (R : Fin 32768) (G : Fin 20) :
    multiReduction .maximumf [2] S32768x20 a 0xFF800000#32 reduces_S32768x20x128_S32768x20 (.inl rfl) rfl (ix2 R G)
      = Finset.univ.fold max (Ideal.ofBits .f32 0xFF800000#32) fun k => a (ix3 R G k) := by
  pointwise []

theorem maxVec_apply (a : FVec Ideal S32768x20x128 .f32) (R : Fin 32768) (G : Fin 20) :
    maxVec a (ix3 R G (0 : Fin 1)) = Finset.univ.fold max (⊥ : EReal) fun k => a (ix3 R G k) := by
  unfold maxVec
  rw [cast_apply, max_apply, neg_inf_eq]

theorem over448_apply (v : FVec Ideal S32768x20x1 .f32) (j : S32768x20x1.Idx) :
    mulf v (broadcast S32768x20x1 (Scalar.ofBits .f32 0x3B124925#32)) j = v j * c448inv := by
  rfl

theorem abs_apply (h : FVec Ideal S32768x20x128 .f32) (j : S32768x20x128.Idx) :
    absf h j = max (h j : EReal) (-(h j : EReal)) := by
  rfl

theorem vVec_apply (h : FVec Ideal S32768x20x128 .f32) (R : Fin 32768) (G : Fin 20) :
    vVec h (ix3 R G (0 : Fin 1)) = gV fun l => h (ix3 R G l) := by
  unfold vVec gV gM
  rw [over448_apply, maxVec_apply]
  simp only [abs_apply]

/-- The reference's power `k` is the power of two with exponent field `k + 2`. -/
theorem power (k : Fin 252) :
    (FloatOps.exp2 (FloatOps.sitofp (F := Ideal) .f32 (IntOp.subi (BitVec.ofNat 32 k.val) 125#32)) : Ideal .f32) = pw (k.val + 2) := by
  have hk := k.isLt
  have e : (IntOp.subi (BitVec.ofNat 32 k.val) 125#32).toInt = (k.val : ℤ) - 125 := by
    show (BitVec.ofNat 32 k.val - 125#32).toInt = _
    have h1 : (BitVec.ofNat 32 k.val).toInt = (k.val : ℤ) := by
      rw [BitVec.toInt_eq_toNat_of_lt] <;> simp only [BitVec.toNat_ofNat] <;> omega
    rw [BitVec.toInt_sub, h1, show (BitVec.toInt 125#32) = 125 by decide]
    simp only [Int.bmod_def]
    omega
  rw [pw_eq _ (by omega) (by omega)]
  show Ideal.exp2 (((IntOp.subi (BitVec.ofNat 32 k.val) 125#32).toInt : ℝ) : EReal) = _
  rw [e]
  show ((Real.rpow 2 (((k.val : ℤ) - 125 : ℤ) : ℝ) : ℝ) : EReal) = _
  congr 1
  rw [show ((k.val + 2 : ℕ) : ℤ) - 127 = (k.val : ℤ) - 125 by omega]
  exact Real.rpow_intCast 2 _

theorem powVec_apply (R : Fin 32768) (G : Fin 20) (k : Fin 252) : powVec (ix3 R G k) = pw (k.val + 2) := by
  rw [← power]
  pointwise [powVec]

theorem aboveVec_apply (v : FVec Ideal S32768x20x1 .f32) (p : FVec Ideal S32768x20x252 .f32) (R : Fin 32768) (G : Fin 20) (k : Fin 252) :
    aboveVec v p (ix3 R G k) = if (v (ix3 R G (0 : Fin 1)) : EReal) < p (ix3 R G k) then p (ix3 R G k) else pw 253 := by
  pointwise [aboveVec]
  try rfl

theorem leastVec_apply (a : FVec Ideal S32768x20x252 .f32) (R : Fin 32768) (G : Fin 20) :
    leastVec a (ix3 R G (0 : Fin 1)) = Finset.univ.fold min (⊤ : EReal) fun k => a (ix3 R G k) := by
  rw [← inf_eq]
  pointwise [leastVec]
  try rfl

theorem pickVec_apply (v s : FVec Ideal S32768x20x1 .f32) (j : S32768x20x1.Idx) :
    pickVec v s j = if (v j : EReal) < pw 1 ∨ (v j : EReal) = ⊤ then (1 : EReal) else s j := by
  show Scalar.select (IntOp.ori (BitVec.ofBool (decide ((v j : EReal) < pw 1)))
    (BitVec.ofBool (decide ((v j : EReal) = (FloatOps.ofBits .f32 0x7F800000#32 : Ideal .f32))))) (Ideal.ofBits .f32 1065353216#32) (s j) = _
  rw [inf_eq, one_eq]
  by_cases h1 : (v j : EReal) < pw 1 <;> by_cases h2 : (v j : EReal) = ⊤ <;> simp [h1, h2, Scalar.select, IntOp.ori]

end Cert.ReferenceIdeal.Hand

end
-- ==== Proof.RefRun.lean ====
/-
  WHAT THE REFERENCE LEAVES in its two result arrays, in terms of its arguments.
-/
module

public import proofs.«01_k».proof.Proof.Spec
public import proofs.«01_k».proof.Proof.RefBlock
public import proofs.«01_k».proof.Proof.RefScale
public import proofs.«01_k».proof.Proof.Gen.ReferenceIdeal.Value
public import Idealize.ShloMosaic.Lib.Claim
public import Idealize.ShloMosaic.Lib.Tactic
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Spec Cert.Scale

section Pure

variable (x : Vec Ideal S32768x6912 .fp8e4m3) (w : Vec Ideal S6912x5120 .fp8e4m3) (xs : Vec Ideal S32768x1 .f32)
  (ws : Vec Ideal S1x5120 .f32)

/-- The reference's scales are the spec's. -/
theorem pay4_apply (R : Fin 32768) (G : Fin 20) : k0_pay4 x w xs ws (ix3 R G (0 : Fin 1)) = gS (pH x w xs ws R G) := by
  rw [pay4_split, pickVec_apply, vVec_apply, leastVec_apply]
  simp only [aboveVec_apply, powVec_apply, vVec_apply, pay3_apply]
  unfold gS rScale
  rfl

/-- The reference's codes are the spec's. -/
theorem codes_apply (R : Fin 32768) (n : Fin 2560) :
    k0_pay1 (k0_pay3 x w xs ws) (k0_pay4 x w xs ws) (ix2 R n)
      = gQ (pH x w xs ws R ⟨n.val / 128, by omega⟩) ⟨n.val % 128, by omega⟩ := by
  rw [pay1_apply, pay3_apply, pay4_apply]
  rfl

/-- The reference's stored scales are the spec's. -/
theorem scales_apply (R : Fin 32768) (G : Fin 20) :
    k0_pay2 (k0_pay4 x w xs ws) (ix2 R G) = gS (pH x w xs ws R G) := by
  rw [pay2_apply, pay4_apply]

end Pure

variable (m : (ℓ : Loc nD τ sig) → Buf (Elt Ideal) ℓ) (c : Dev nD)

/-- The activations' codes, by row and column. -/
def bX (R : Fin 32768) (k : Fin 6912) : EReal :=
  m ((c : Thread nD τ).loc main_arg0) (ix3 (⟨R.val / 8192, by omega⟩ : Fin 4) (⟨R.val % 8192, by omega⟩ : Fin 8192) k)
/-- The activations' scales, by row. -/
def bXS (R : Fin 32768) : EReal :=
  m ((c : Thread nD τ).loc main_arg1) (ix3 (⟨R.val / 8192, by omega⟩ : Fin 4) (⟨R.val % 8192, by omega⟩ : Fin 8192) (0 : Fin 1))
/-- The weights' codes. -/
def bW (k : Fin 6912) (n : Fin 5120) : EReal := m ((c : Thread nD τ).loc main_arg2) (ix2 k n)
/-- The weights' scales, by column. -/
def bWS (n : Fin 5120) : EReal := m ((c : Thread nD τ).loc main_arg3) (ix1 n)

/-- The SwiGLU values of a row and a group, from the reference's arguments. -/
def bHv (R : Fin 32768) (G : Fin 20) : Fin 128 → EReal := rowH (bX m c) (bXS m c) (bW m c) (bWS m c) R G

/-- The windows' block indices at the one point. -/
theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0] :=
  (by decide +kernel : ∀ t : Fin grid0.N, _)

theorem iblk_x (t : Fin cfg0.N) (R : Fin 32768) (k : Fin 6912) : iblk m c 0 t (ix2 R k) = bX m c R k := by
  unfold bX
  blk_ext! [iblk, V, idx t]

theorem iblk_xs (t : Fin cfg0.N) (R : Fin 32768) : iblk m c 1 t (ix2 R (0 : Fin 1)) = bXS m c R := by
  unfold bXS
  blk_ext! [iblk, V, idx t]

theorem iblk_w (t : Fin cfg0.N) (k : Fin 6912) (n : Fin 5120) : iblk m c 2 t (ix2 k n) = bW m c k n := by
  unfold bW
  blk_ext! [iblk, V, idx t]

theorem iblk_ws (t : Fin cfg0.N) (n : Fin 5120) : iblk m c 3 t (ix2 (0 : Fin 1) n) = bWS m c n := by
  unfold bWS
  blk_ext! [iblk, V, idx t]

/-- The values computed from the blocks are those of the arguments. -/
theorem pH_eq (t : Fin cfg0.N) (R : Fin 32768) (G : Fin 20) :
    pH (iblk m c 0 t) (iblk m c 2 t) (iblk m c 1 t) (iblk m c 3 t) R G = bHv m c R G := by
  unfold pH bHv
  simp only [iblk_x, iblk_xs, iblk_w, iblk_ws]

/-- The scales the run stores are the payload of the whole blocks. -/
theorem pay5_eq (x : Vec Ideal S32768x6912 .fp8e4m3) (xs : Vec Ideal S32768x1 .f32) (w : Vec Ideal S6912x5120 .fp8e4m3)
    (ws : Vec Ideal S1x5120 .f32) : k0_pay5 x xs w ws = k0_pay4 x w xs ws := by
  unfold k0_pay5
  frame_out

/-- The block's codes at an element. -/
theorem block4 (t : Fin cfg0.N) (R : Fin 32768) (n : Fin 2560) :
    k0_pay1 (k0_pay3 (iblk m c 0 t) (iblk m c 2 t) (iblk m c 1 t) (iblk m c 3 t))
      (k0_pay5 (iblk m c 0 t) (iblk m c 1 t) (iblk m c 2 t) (iblk m c 3 t)) (ix2 R n)
      = gQ (bHv m c R ⟨n.val / 128, by omega⟩) ⟨n.val % 128, by omega⟩ := by
  rw [pay5_eq, codes_apply, pH_eq]

/-- The block's scales at an element. -/
theorem block5 (t : Fin cfg0.N) (R : Fin 32768) (G : Fin 20) :
    k0_pay2 (k0_pay5 (iblk m c 0 t) (iblk m c 1 t) (iblk m c 2 t) (iblk m c 3 t)) (ix2 R G) = gS (bHv m c R G) := by
  rw [pay5_eq, scales_apply, pH_eq]

/-- The reference's codes, after the run. -/
theorem arr4 : (dats m 0 c).arrAt 4 cfg0.N = fun i : S32768x2560.Idx =>
    gQ (bHv m c (i 0) ⟨(i 1).val / 128, by have := (i 1).isLt; change (i 1).val < 2560 at this; omega⟩) ⟨(i 1).val % 128, by omega⟩ := by
  refine (dats m 0 c).arrAt_eq_of_covers 4 _ (by decide +kernel) fun t hf y => ?_
  blk_simp
  rw [after0_4]
  frame_out
  have e := idx t
  idx_vars y
  rw [block4]
  refine congrArg₂ gQ (congrArg₂ (bHv m c) (Fin.ext ?_) (Fin.ext ?_)) (Fin.ext ?_) <;> blk_simp [e] <;> omega

/-- The reference's scales, after the run. -/
theorem arr5 : (dats m 0 c).arrAt 5 cfg0.N = fun i : S32768x20.Idx => gS (bHv m c (i 0) (i 1)) := by
  refine (dats m 0 c).arrAt_eq_of_covers 5 _ (by decide +kernel) fun t hf y => ?_
  blk_simp
  rw [after0_5]
  frame_out
  have e := idx t
  idx_vars y
  rw [block5]
  refine congrArg gS (congrArg₂ (bHv m c) (Fin.ext ?_) (Fin.ext ?_)) <;> blk_simp [e] <;> omega

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Gen.KernelIdeal.Value
public import proofs.«01_k».proof.Proof.Gen.ReferenceIdeal.Value
public import proofs.«01_k».proof.Proof.Fold
public import proofs.«01_k».proof.Proof.RefRun

@[expose] public section

noncomputable section

namespace Cert.Proof

open Idealize.ShloMosaic Idealize.SL.Sem Cert.Kernel

/-- With equal arguments, the two programs' SwiGLU values are equal. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Hand.bHv m' c = Cert.KernelIdeal.Hand.aH m c := by
  have e0 : Cert.ReferenceIdeal.Hand.bX m' c = Cert.KernelIdeal.Hand.aX m c := by
    funext R k; exact congrFun h0 _
  have e1 : Cert.ReferenceIdeal.Hand.bXS m' c = Cert.KernelIdeal.Hand.aXS m c := by
    funext R; exact congrFun h1 _
  have e2 : Cert.ReferenceIdeal.Hand.bW m' c = Cert.KernelIdeal.Hand.aW m c := by
    funext k n; exact congrFun h2 _
  have e3 : Cert.ReferenceIdeal.Hand.bWS m' c = Cert.KernelIdeal.Hand.aWS m c := by
    funext n; exact congrFun h3 _
  funext R G
  unfold Cert.ReferenceIdeal.Hand.bHv Cert.KernelIdeal.Hand.aH
  rw [e0, e1, e2, e3]

/-- The kernel's and the reference's codes and scales are equal over the extended reals. -/
theorem algebraic [hKernelIdeal : Cert.KernelIdeal.Facts] [hReferenceIdeal : Cert.ReferenceIdeal.Facts] :
    Cert.algebraic_KernelIdeal_ReferenceIdeal := by
  intro m ρ m' ρ' _ hag
  refine ⟨fun c => Cert.KernelIdeal.Value.G4 m c, fun c => Cert.KernelIdeal.Value.G5 m c, Cert.KernelIdeal.Value.run m ρ, ?_⟩
  refine (θ_run _ _ _).mono (fun r h c => ?_) (Cert.ReferenceIdeal.Value.run_blocks m' ρ')
  obtain ⟨h4, h5, hk⟩ := h c
  obtain ⟨g0, g1, g2, g3⟩ := hag c
  have e := values_eq m m' c g0 g1 g2 g3
  refine ⟨h4.trans ?_, h5.trans ?_, hk⟩
  · rw [Cert.ReferenceIdeal.Hand.arr4]
    funext i
    exact (congrArg (fun H : Fin 32768 → Fin 20 → Fin 128 → EReal =>
      Cert.Spec.gQ (H (i 0) ⟨(i 1).val / 128, by have := (i 1).isLt; change (i 1).val < 2560 at this; omega⟩) ⟨(i 1).val % 128, by omega⟩) e).trans
      (Cert.KernelIdeal.Hand.G4_eq m c i).symm
  · rw [Cert.ReferenceIdeal.Hand.arr5]
    funext i
    exact (congrArg (fun H : Fin 32768 → Fin 20 → Fin 128 → EReal => Cert.Spec.gS (H (i 0) (i 1))) e).trans
      (Cert.KernelIdeal.Hand.G5_eq m c i).symm

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
